-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Pack (m : (ℓ : Loc Cert.Pack.nD Cert.Pack.τ Cert.Pack.sig) → Buf (Elt Bits) ℓ) : Prop :=
  True

def Pre_Table (m : (ℓ : Loc Cert.Table.nD Cert.Table.τ Cert.Table.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def bitexact_Pack_Table [hPack : Cert.Pack.Facts] [hTable : Cert.Table.Facts] : Prop :=
  ∀ (m : (ℓ : Loc Cert.Pack.nD Cert.Pack.τ Cert.Pack.sig) → Buf (Elt Bits) ℓ) (g : Dev Cert.Pack.nD → PrngReg)
    (m' : (ℓ : Loc Cert.Table.nD Cert.Table.τ Cert.Table.sig) → Buf (Elt Bits) ℓ) (g' : Dev Cert.Table.nD → PrngReg), Pre_Pack m →
    (∀ c : Dev Cert.Pack.nD,
      m' ((c.tc : Thread Cert.Table.nD Cert.Table.τ).loc Cert.Table.main_arg0) = m ((c.tc : Thread Cert.Pack.nD Cert.Pack.τ).loc Cert.Pack.main_arg0)
      ∧ m' ((c.tc : Thread Cert.Table.nD Cert.Table.τ).loc Cert.Table.main_arg1) = m ((c.tc : Thread Cert.Pack.nD Cert.Pack.τ).loc Cert.Pack.main_arg1)) →
    ∃ (v0 : (c : Dev Cert.Pack.nD) → Buf (Elt Bits) ((c.tc : Thread Cert.Pack.nD Cert.Pack.τ).loc Cert.Pack.main_v2)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v2) = v0 c
          ∧ r.2.mem ((c.tc : Thread Cert.Pack.nD Cert.Pack.τ).loc Cert.Pack.main_arg0) = m ((c.tc : Thread Cert.Pack.nD Cert.Pack.τ).loc Cert.Pack.main_arg0)
          ∧ r.2.mem ((c.tc : Thread Cert.Pack.nD Cert.Pack.τ).loc Cert.Pack.main_arg1) = m ((c.tc : Thread Cert.Pack.nD Cert.Pack.τ).loc Cert.Pack.main_arg1))
      ∧ θ_run (Cert.Table.defs (F := Bits)) (onTc (τ := Cert.Table.τ) (Cert.Table.main (F := Bits))) ⟨m', fun _ => 0, g'⟩ (fun r => ∀ c : Dev Cert.Table.nD,
          r.2.mem ((c.tc : Thread Cert.Table.nD Cert.Table.τ).loc Cert.Table.main_v12) = v0 c
          ∧ r.2.mem ((c.tc : Thread Cert.Table.nD Cert.Table.τ).loc Cert.Table.main_arg0) = m' ((c.tc : Thread Cert.Table.nD Cert.Table.τ).loc Cert.Table.main_arg0)
          ∧ r.2.mem ((c.tc : Thread Cert.Table.nD Cert.Table.τ).loc Cert.Table.main_arg1) = m' ((c.tc : Thread Cert.Table.nD Cert.Table.τ).loc Cert.Table.main_arg1))

def Claim : Prop :=
  ∃ (hKernel : Cert.Kernel.Facts) (hKernelIdeal : Cert.KernelIdeal.Facts) (hReferenceIdeal : Cert.ReferenceIdeal.Facts) (hPack : Cert.Pack.Facts) (hTable : Cert.Table.Facts),
    quiescent_Kernel (hKernel := hKernel)
    ∧ quiescent_KernelIdeal (hKernelIdeal := hKernelIdeal)
    ∧ quiescent_ReferenceIdeal (hReferenceIdeal := hReferenceIdeal)
    ∧ quiescent_Pack (hPack := hPack)
    ∧ quiescent_Table (hTable := hTable)
    ∧ preserves_Kernel_KernelIdeal
    ∧ algebraic_KernelIdeal_ReferenceIdeal (hKernelIdeal := hKernelIdeal) (hReferenceIdeal := hReferenceIdeal)
    ∧ bitexact_Pack_Table (hPack := hPack) (hTable := hTable)
-- ==== Kernel.lean ====
abbrev S262144x128 : Shape := ⟨2, ![262144, 128]⟩
abbrev S1024x128 : Shape := ⟨2, ![1024, 128]⟩
abbrev S8192x4x96 : Shape := ⟨3, ![8192, 4, 96]⟩
abbrev S8192x4x256 : Shape := ⟨3, ![8192, 4, 256]⟩
abbrev S2048x128 : Shape := ⟨2, ![2048, 128]⟩
abbrev S8x128 : Shape := ⟨2, ![8, 128]⟩
abbrev S8x4x96 : Shape := ⟨3, ![8, 4, 96]⟩
abbrev S8x4x256 : Shape := ⟨3, ![8, 4, 256]⟩
abbrev S8x256x512 : Shape := ⟨3, ![8, 256, 512]⟩
abbrev S3x32x256 : Shape := ⟨3, ![3, 32, 256]⟩
abbrev S4x32x128 : Shape := ⟨3, ![4, 32, 128]⟩
abbrev S32x128 : Shape := ⟨2, ![32, 128]⟩
abbrev S8x1x128 : Shape := ⟨3, ![8, 1, 128]⟩
abbrev S8x4x128 : Shape := ⟨3, ![8, 4, 128]⟩
abbrev S32 : Shape := ⟨1, ![32]⟩
abbrev S32x1 : Shape := ⟨2, ![32, 1]⟩
abbrev S12x128 : Shape := ⟨2, ![12, 128]⟩
abbrev S256x128 : Shape := ⟨2, ![256, 128]⟩
abbrev S1x256x128 : Shape := ⟨3, ![1, 256, 128]⟩
abbrev S4x128 : Shape := ⟨2, ![4, 128]⟩
abbrev S16x128 : Shape := ⟨2, ![16, 128]⟩
abbrev S16x512 : Shape := ⟨2, ![16, 512]⟩
abbrev S1x256x512 : Shape := ⟨3, ![1, 256, 512]⟩
abbrev S256x512 : Shape := ⟨2, ![256, 512]⟩
abbrev S16x256 : Shape := ⟨2, ![16, 256]⟩
abbrev S4x256 : Shape := ⟨2, ![4, 256]⟩
abbrev S1x4x256 : Shape := ⟨3, ![1, 4, 256]⟩
abbrev S1x32x256 : Shape := ⟨3, ![1, 32, 256]⟩
abbrev S32x256 : Shape := ⟨2, ![32, 256]⟩
abbrev S4x512 : Shape := ⟨2, ![4, 512]⟩
abbrev S1x4x128 : Shape := ⟨3, ![1, 4, 128]⟩
abbrev S1x32x128 : Shape := ⟨3, ![1, 32, 128]⟩
abbrev S32x128x1 : Shape := ⟨3, ![32, 128, 1]⟩
abbrev S32x96 : Shape := ⟨2, ![32, 96]⟩

abbrev nBuf : Space → Nat
  | .hbm => 32
  | .vmem => 88
  | .smem => 0
  | _ => 0

abbrev bufTy : (tb : Table) → Fin (tcTables nBuf tb) → BufTy
  | .hbm, ⟨0, _⟩ => ⟨S262144x128, .i32⟩
  | .hbm, ⟨1, _⟩ => ⟨S262144x128, .i32⟩
  | .hbm, ⟨2, _⟩ => ⟨S262144x128, .i32⟩
  | .hbm, ⟨3, _⟩ => ⟨S262144x128, .i32⟩
  | .hbm, ⟨4, _⟩ => ⟨S262144x128, .i32⟩
  | .hbm, ⟨5, _⟩ => ⟨S262144x128, .i32⟩
  | .hbm, ⟨6, _⟩ => ⟨S262144x128, .i32⟩
  | .hbm, ⟨7, _⟩ => ⟨S262144x128, .i32⟩
  | .hbm, ⟨8, _⟩ => ⟨S1024x128, .i32⟩
  | .hbm, ⟨9, _⟩ => ⟨S1024x128, .i32⟩
  | .hbm, ⟨10, _⟩ => ⟨S1024x128, .i32⟩
  | .hbm, ⟨11, _⟩ => ⟨S1024x128, .i32⟩
  | .hbm, ⟨12, _⟩ => ⟨S1024x128, .i32⟩
  | .hbm, ⟨13, _⟩ => ⟨S1024x128, .i32⟩
  | .hbm, ⟨14, _⟩ => ⟨S1024x128, .i32⟩
  | .hbm, ⟨15, _⟩ => ⟨S1024x128, .i32⟩
  | .hbm, ⟨16, _⟩ => ⟨S8192x4x96, .bf16⟩
  | .hbm, ⟨17, _⟩ => ⟨S8192x4x256, .f32⟩
  | .hbm, ⟨18, _⟩ => ⟨S8192x4x96, .bf16⟩
  | .hbm, ⟨19, _⟩ => ⟨S8192x4x256, .f32⟩
  | .hbm, ⟨20, _⟩ => ⟨S8192x4x96, .bf16⟩
  | .hbm, ⟨21, _⟩ => ⟨S8192x4x256, .f32⟩
  | .hbm, ⟨22, _⟩ => ⟨S8192x4x96, .bf16⟩
  | .hbm, ⟨23, _⟩ => ⟨S8192x4x256, .f32⟩
  | .hbm, ⟨24, _⟩ => ⟨S8192x4x96, .bf16⟩
  | .hbm, ⟨25, _⟩ => ⟨S8192x4x256, .f32⟩
  | .hbm, ⟨26, _⟩ => ⟨S8192x4x96, .bf16⟩
  | .hbm, ⟨27, _⟩ => ⟨S8192x4x256, .f32⟩
  | .hbm, ⟨28, _⟩ => ⟨S8192x4x96, .bf16⟩
  | .hbm, ⟨29, _⟩ => ⟨S8192x4x256, .f32⟩
  | .hbm, ⟨30, _⟩ => ⟨S8192x4x96, .bf16⟩
  | .hbm, ⟨31, _⟩ => ⟨S8192x4x256, .f32⟩
  | .local _ .vmem, ⟨0, _⟩ => ⟨S2048x128, .i32⟩
  | .local _ .vmem, ⟨1, _⟩ => ⟨S2048x128, .i32⟩
  | .local _ .vmem, ⟨2, _⟩ => ⟨S8x128, .i32⟩
  | .local _ .vmem, ⟨3, _⟩ => ⟨S8x128, .i32⟩
  | .local _ .vmem, ⟨4, _⟩ => ⟨S8x4x96, .bf16⟩
  | .local _ .vmem, ⟨5, _⟩ => ⟨S8x4x96, .bf16⟩
  | .local _ .vmem, ⟨6, _⟩ => ⟨S8x4x256, .f32⟩
  | .local _ .vmem, ⟨7, _⟩ => ⟨S8x4x256, .f32⟩
  | .local _ .vmem, ⟨8, _⟩ => ⟨S8x256x512, .bf16⟩
  | .local _ .vmem, ⟨9, _⟩ => ⟨S3x32x256, .f32⟩
  | .local _ .vmem, ⟨10, _⟩ => ⟨S4x32x128, .f32⟩
  | .local _ .vmem, ⟨11, _⟩ => ⟨S2048x128, .i32⟩
  | .local _ .vmem, ⟨12, _⟩ => ⟨S2048x128, .i32⟩
  | .local _ .vmem, ⟨13, _⟩ => ⟨S8x128, .i32⟩
  | .local _ .vmem, ⟨14, _⟩ => ⟨S8x128, .i32⟩
  | .local _ .vmem, ⟨15, _⟩ => ⟨S8x4x96, .bf16⟩
  | .local _ .vmem, ⟨16, _⟩ => ⟨S8x4x96, .bf16⟩
  | .local _ .vmem, ⟨17, _⟩ => ⟨S8x4x256, .f32⟩
  | .local _ .vmem, ⟨18, _⟩ => ⟨S8x4x256, .f32⟩
  | .local _ .vmem, ⟨19, _⟩ => ⟨S8x256x512, .bf16⟩
  | .local _ .vmem, ⟨20, _⟩ => ⟨S3x32x256, .f32⟩
  | .local _ .vmem, ⟨21, _⟩ => ⟨S4x32x128, .f32⟩
  | .local _ .vmem, ⟨22, _⟩ => ⟨S2048x128, .i32⟩
  | .local _ .vmem, ⟨23, _⟩ => ⟨S2048x128, .i32⟩
  | .local _ .vmem, ⟨24, _⟩ => ⟨S8x128, .i32⟩
  | .local _ .vmem, ⟨25, _⟩ => ⟨S8x128, .i32⟩
  | .local _ .vmem, ⟨26, _⟩ => ⟨S8x4x96, .bf16⟩
  | .local _ .vmem, ⟨27, _⟩ => ⟨S8x4x96, .bf16⟩
  | .local _ .vmem, ⟨28, _⟩ => ⟨S8x4x256, .f32⟩
  | .local _ .vmem, ⟨29, _⟩ => ⟨S8x4x256, .f32⟩
  | .local _ .vmem, ⟨30, _⟩ => ⟨S8x256x512, .bf16⟩
  | .local _ .vmem, ⟨31, _⟩ => ⟨S3x32x256, .f32⟩
  | .local _ .vmem, ⟨32, _⟩ => ⟨S4x32x128, .f32⟩
  | .local _ .vmem, ⟨33, _⟩ => ⟨S2048x128, .i32⟩
  | .local _ .vmem, ⟨34, _⟩ => ⟨S2048x128, .i32⟩
  | .local _ .vmem, ⟨35, _⟩ => ⟨S8x128, .i32⟩
  | .local _ .vmem, ⟨36, _⟩ => ⟨S8x128, .i32⟩
  | .local _ .vmem, ⟨37, _⟩ => ⟨S8x4x96, .bf16⟩
  | .local _ .vmem, ⟨38, _⟩ => ⟨S8x4x96, .bf16⟩
  | .local _ .vmem, ⟨39, _⟩ => ⟨S8x4x256, .f32⟩
  | .local _ .vmem, ⟨40, _⟩ => ⟨S8x4x256, .f32⟩
  | .local _ .vmem, ⟨41, _⟩ => ⟨S8x256x512, .bf16⟩
  | .local _ .vmem, ⟨42, _⟩ => ⟨S3x32x256, .f32⟩
  | .local _ .vmem, ⟨43, _⟩ => ⟨S4x32x128, .f32⟩
  | .local _ .vmem, ⟨44, _⟩ => ⟨S2048x128, .i32⟩
  | .local _ .vmem, ⟨45, _⟩ => ⟨S2048x128, .i32⟩
  | .local _ .vmem, ⟨46, _⟩ => ⟨S8x128, .i32⟩
  | .local _ .vmem, ⟨47, _⟩ => ⟨S8x128, .i32⟩
  | .local _ .vmem, ⟨48, _⟩ => ⟨S8x4x96, .bf16⟩
  | .local _ .vmem, ⟨49, _⟩ => ⟨S8x4x96, .bf16⟩
  | .local _ .vmem, ⟨50, _⟩ => ⟨S8x4x256, .f32⟩
  | .local _ .vmem, ⟨51, _⟩ => ⟨S8x4x256, .f32⟩
  | .local _ .vmem, ⟨52, _⟩ => ⟨S8x256x512, .bf16⟩
  | .local _ .vmem, ⟨53, _⟩ => ⟨S3x32x256, .f32⟩
  | .local _ .vmem, ⟨54, _⟩ => ⟨S4x32x128, .f32⟩
  | .local _ .vmem, ⟨55, _⟩ => ⟨S2048x128, .i32⟩
  | .local _ .vmem, ⟨56, _⟩ => ⟨S2048x128, .i32⟩
  | .local _ .vmem, ⟨57, _⟩ => ⟨S8x128, .i32⟩
  | .local _ .vmem, ⟨58, _⟩ => ⟨S8x128, .i32⟩
  | .local _ .vmem, ⟨59, _⟩ => ⟨S8x4x96, .bf16⟩
  | .local _ .vmem, ⟨60, _⟩ => ⟨S8x4x96, .bf16⟩
  | .local _ .vmem, ⟨61, _⟩ => ⟨S8x4x256, .f32⟩
  | .local _ .vmem, ⟨62, _⟩ => ⟨S8x4x256, .f32⟩
  | .local _ .vmem, ⟨63, _⟩ => ⟨S8x256x512, .bf16⟩
  | .local _ .vmem, ⟨64, _⟩ => ⟨S3x32x256, .f32⟩
  | .local _ .vmem, ⟨65, _⟩ => ⟨S4x32x128, .f32⟩
  | .local _ .vmem, ⟨66, _⟩ => ⟨S2048x128, .i32⟩
  | .local _ .vmem, ⟨67, _⟩ => ⟨S2048x128, .i32⟩
  | .local _ .vmem, ⟨68, _⟩ => ⟨S8x128, .i32⟩
  | .local _ .vmem, ⟨69, _⟩ => ⟨S8x128, .i32⟩
  | .local _ .vmem, ⟨70, _⟩ => ⟨S8x4x96, .bf16⟩
  | .local _ .vmem, ⟨71, _⟩ => ⟨S8x4x96, .bf16⟩
  | .local _ .vmem, ⟨72, _⟩ => ⟨S8x4x256, .f32⟩
  | .local _ .vmem, ⟨73, _⟩ => ⟨S8x4x256, .f32⟩
  | .local _ .vmem, ⟨74, _⟩ => ⟨S8x256x512, .bf16⟩
  | .local _ .vmem, ⟨75, _⟩ => ⟨S3x32x256, .f32⟩
  | .local _ .vmem, ⟨76, _⟩ => ⟨S4x32x128, .f32⟩
  | .local _ .vmem, ⟨77, _⟩ => ⟨S2048x128, .i32⟩
  | .local _ .vmem, ⟨78, _⟩ => ⟨S2048x128, .i32⟩
  | .local _ .vmem, ⟨79, _⟩ => ⟨S8x128, .i32⟩
  | .local _ .vmem, ⟨80, _⟩ => ⟨S8x128, .i32⟩
  | .local _ .vmem, ⟨81, _⟩ => ⟨S8x4x96, .bf16⟩
  | .local _ .vmem, ⟨82, _⟩ => ⟨S8x4x96, .bf16⟩
  | .local _ .vmem, ⟨83, _⟩ => ⟨S8x4x256, .f32⟩
  | .local _ .vmem, ⟨84, _⟩ => ⟨S8x4x256, .f32⟩
  | .local _ .vmem, ⟨85, _⟩ => ⟨S8x256x512, .bf16⟩
  | .local _ .vmem, ⟨86, _⟩ => ⟨S3x32x256, .f32⟩
  | .local _ .vmem, ⟨87, _⟩ => ⟨S4x32x128, .f32⟩
  | _, _ => ⟨S262144x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1_0 : Ref sig .tc := ⟨.hbm, 18, rfl⟩
abbrev main_v1_1 : Ref sig .tc := ⟨.hbm, 19, rfl⟩
abbrev main_v2_0 : Ref sig .tc := ⟨.hbm, 20, rfl⟩
abbrev main_v2_1 : Ref sig .tc := ⟨.hbm, 21, rfl⟩
abbrev main_v3_0 : Ref sig .tc := ⟨.hbm, 22, rfl⟩
abbrev main_v3_1 : Ref sig .tc := ⟨.hbm, 23, rfl⟩
abbrev main_v4_0 : Ref sig .tc := ⟨.hbm, 24, rfl⟩
abbrev main_v4_1 : Ref sig .tc := ⟨.hbm, 25, rfl⟩
abbrev main_v5_0 : Ref sig .tc := ⟨.hbm, 26, rfl⟩
abbrev main_v5_1 : Ref sig .tc := ⟨.hbm, 27, rfl⟩
abbrev main_v6_0 : Ref sig .tc := ⟨.hbm, 28, rfl⟩
abbrev main_v6_1 : Ref sig .tc := ⟨.hbm, 29, rfl⟩
abbrev main_v7_0 : Ref sig .tc := ⟨.hbm, 30, rfl⟩
abbrev main_v7_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_scratch0 : Ref sig .tc := ⟨.vmem, 30, rfl⟩
abbrev cc2_scratch1 : Ref sig .tc := ⟨.vmem, 31, rfl⟩
abbrev cc2_scratch2 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_scratch0 : Ref sig .tc := ⟨.vmem, 41, rfl⟩
abbrev cc3_scratch1 : Ref sig .tc := ⟨.vmem, 42, rfl⟩
abbrev cc3_scratch2 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_scratch0 : Ref sig .tc := ⟨.vmem, 52, rfl⟩
abbrev cc4_scratch1 : Ref sig .tc := ⟨.vmem, 53, rfl⟩
abbrev cc4_scratch2 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_scratch0 : Ref sig .tc := ⟨.vmem, 63, rfl⟩
abbrev cc5_scratch1 : Ref sig .tc := ⟨.vmem, 64, rfl⟩
abbrev cc5_scratch2 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc6_scratch0 : Ref sig .tc := ⟨.vmem, 74, rfl⟩
abbrev cc6_scratch1 : Ref sig .tc := ⟨.vmem, 75, rfl⟩
abbrev cc6_scratch2 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc7_scratch0 : Ref sig .tc := ⟨.vmem, 85, rfl⟩
abbrev cc7_scratch1 : Ref sig .tc := ⟨.vmem, 86, rfl⟩
abbrev cc7_scratch2 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S2048x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x4x96 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x4x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c256_i32 : BitVec 32 := 256#32
  let v0 : BitVec 32 := Scalar.addi arg0 c256_i32
  let c0_i32 : BitVec 32 := 0#32
  let c0_i32_0 : BitVec 32 := 0#32
  let c0_i32_1 : BitVec 32 := 0#32
  ![v0.toNat, c0_i32.toNat, c0_i32_0.toNat]

def cc2_transform_5 (i : grid2.Coords) : Fin 3 → Nat :=
  let arg0 : BitVec 32 := BitVec.ofNat 32 (i 0).val
  let c256_i32 : BitVec 32 := 256#32
  let v0 : BitVec 32 := Scalar.addi arg0 c256_i32
  let c0_i32 : BitVec 32 := 0#32
  let c0_i32_0 : BitVec 32 := 0#32
  let c0_i32_1 : BitVec 32 := 0#32
  ![v0.toNat, c0_i32.toNat, c0_i32_0.toNat]

abbrev stage2_0 : Fin 2 → Memref sig .tc .vmem S2048x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x4x96 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x4x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c384_i32 : BitVec 32 := 384#32
  let v0 : BitVec 32 := Scalar.addi arg0 c384_i32
  let c0_i32 : BitVec 32 := 0#32
  let c0_i32_0 : BitVec 32 := 0#32
  let c0_i32_1 : BitVec 32 := 0#32
  ![v0.toNat, c0_i32.toNat, c0_i32_0.toNat]

def cc3_transform_5 (i : grid3.Coords) : Fin 3 → Nat :=
  let arg0 : BitVec 32 := BitVec.ofNat 32 (i 0).val
  let c384_i32 : BitVec 32 := 384#32
  let v0 : BitVec 32 := Scalar.addi arg0 c384_i32
  let c0_i32 : BitVec 32 := 0#32
  let c0_i32_0 : BitVec 32 := 0#32
  let c0_i32_1 : BitVec 32 := 0#32
  ![v0.toNat, c0_i32.toNat, c0_i32_0.toNat]

abbrev stage3_0 : Fin 2 → Memref sig .tc .vmem S2048x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x4x96 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x4x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  let c0_i32_1 : BitVec 32 := 0#32
  ![v0.toNat, c0_i32.toNat, c0_i32_0.toNat]

def cc4_transform_5 (i : grid4.Coords) : Fin 3 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  let c0_i32_1 : BitVec 32 := 0#32
  ![v0.toNat, c0_i32.toNat, c0_i32_0.toNat]

abbrev stage4_0 : Fin 2 → Memref sig .tc .vmem S2048x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8x4x96 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x4x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![128], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 3 → Nat :=
  let arg0 : BitVec 32 := BitVec.ofNat 32 (i 0).val
  let c640_i32 : BitVec 32 := 640#32
  let v0 : BitVec 32 := Scalar.addi arg0 c640_i32
  let c0_i32 : BitVec 32 := 0#32
  let c0_i32_0 : BitVec 32 := 0#32
  let c0_i32_1 : BitVec 32 := 0#32
  ![v0.toNat, c0_i32.toNat, c0_i32_0.toNat]

def cc5_transform_5 (i : grid5.Coords) : Fin 3 → Nat :=
  let arg0 : BitVec 32 := BitVec.ofNat 32 (i 0).val
  let c640_i32 : BitVec 32 := 640#32
  let v0 : BitVec 32 := Scalar.addi arg0 c640_i32
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S2048x128 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x128 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8x4x96 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8x4x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![128], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 3 → Nat :=
  let arg0 : BitVec 32 := BitVec.ofNat 32 (i 0).val
  let c768_i32 : BitVec 32 := 768#32
  let v0 : BitVec 32 := Scalar.addi arg0 c768_i32
  let c0_i32 : BitVec 32 := 0#32
  let c0_i32_0 : BitVec 32 := 0#32
  let c0_i32_1 : BitVec 32 := 0#32
  ![v0.toNat, c0_i32.toNat, c0_i32_0.toNat]

def cc6_transform_5 (i : grid6.Coords) : Fin 3 → Nat :=
  let arg0 : BitVec 32 := BitVec.ofNat 32 (i 0).val
  let c768_i32 : BitVec 32 := 768#32
  let v0 : BitVec 32 := Scalar.addi arg0 c768_i32
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S2048x128 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8x128 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8x4x96 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S8x4x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![128], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 3 → Nat :=
  let arg0 : BitVec 32 := BitVec.ofNat 32 (i 0).val
  let c896_i32 : BitVec 32 := 896#32
  let v0 : BitVec 32 := Scalar.addi arg0 c896_i32
  let c0_i32 : BitVec 32 := 0#32
  let c0_i32_0 : BitVec 32 := 0#32
  let c0_i32_1 : BitVec 32 := 0#32
  ![v0.toNat, c0_i32.toNat, c0_i32_0.toNat]

def cc7_transform_5 (i : grid7.Coords) : Fin 3 → Nat :=
  let arg0 : BitVec 32 := BitVec.ofNat 32 (i 0).val
  let c896_i32 : BitVec 32 := 896#32
  let v0 : BitVec 32 := Scalar.addi arg0 c896_i32
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S2048x128 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8x128 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8x4x96 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S8x4x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]
-- ==== ReferenceIdeal.lean ====
abbrev S262144x128 : Shape := ⟨2, ![262144, 128]⟩
abbrev S1024x128 : Shape := ⟨2, ![1024, 128]⟩
abbrev S2097152x128 : Shape := ⟨2, ![2097152, 128]⟩
abbrev S8192x256x4x32 : Shape := ⟨4, ![8192, 256, 4, 32]⟩
abbrev S8192x128 : Shape := ⟨2, ![8192, 128]⟩
abbrev S8192x4x32 : Shape := ⟨3, ![8192, 4, 32]⟩
abbrev S8192x256x4x24 : Shape := ⟨4, ![8192, 256, 4, 24]⟩
abbrev S8192x256x4x24x4 : Shape := ⟨5, ![8192, 256, 4, 24, 4]⟩
abbrev S8192x256x4x96 : Shape := ⟨4, ![8192, 256, 4, 96]⟩
abbrev S8192x256x4x1 : Shape := ⟨4, ![8192, 256, 4, 1]⟩
abbrev S8192x256x4 : Shape := ⟨3, ![8192, 256, 4]⟩
abbrev S_ : Shape := ⟨0, ![]⟩
abbrev S8192x4x256 : Shape := ⟨3, ![8192, 4, 256]⟩
abbrev S8192x4x24 : Shape := ⟨3, ![8192, 4, 24]⟩
abbrev S8192x4x24x4 : Shape := ⟨4, ![8192, 4, 24, 4]⟩
abbrev S8192x4x96 : Shape := ⟨3, ![8192, 4, 96]⟩
abbrev S8192x4x1 : Shape := ⟨3, ![8192, 4, 1]⟩
abbrev S8192x4 : Shape := ⟨2, ![8192, 4]⟩
abbrev S256 : Shape := ⟨1, ![256]⟩
abbrev S1x1x256 : Shape := ⟨3, ![1, 1, 256]⟩

abbrev nBuf : Space → Nat
  | .hbm => 101
  | .vmem => 0
  | .smem => 0
  | _ => 0

abbrev bufTy : (tb : Table) → Fin (tcTables nBuf tb) → BufTy
  | .hbm, ⟨0, _⟩ => ⟨S262144x128, .i32⟩
  | .hbm, ⟨1, _⟩ => ⟨S262144x128, .i32⟩
  | .hbm, ⟨2, _⟩ => ⟨S262144x128, .i32⟩
  | .hbm, ⟨3, _⟩ => ⟨S262144x128, .i32⟩
  | .hbm, ⟨4, _⟩ => ⟨S262144x128, .i32⟩
  | .hbm, ⟨5, _⟩ => ⟨S262144x128, .i32⟩
  | .hbm, ⟨6, _⟩ => ⟨S262144x128, .i32⟩
  | .hbm, ⟨7, _⟩ => ⟨S262144x128, .i32⟩
  | .hbm, ⟨8, _⟩ => ⟨S1024x128, .i32⟩
  | .hbm, ⟨9, _⟩ => ⟨S1024x128, .i32⟩
  | .hbm, ⟨10, _⟩ => ⟨S1024x128, .i32⟩
  | .hbm, ⟨11, _⟩ => ⟨S1024x128, .i32⟩
  | .hbm, ⟨12, _⟩ => ⟨S1024x128, .i32⟩
  | .hbm, ⟨13, _⟩ => ⟨S1024x128, .i32⟩
  | .hbm, ⟨14, _⟩ => ⟨S1024x128, .i32⟩
  | .hbm, ⟨15, _⟩ => ⟨S1024x128, .i32⟩
  | .hbm, ⟨16, _⟩ => ⟨S2097152x128, .i32⟩
  | .hbm, ⟨17, _⟩ => ⟨S8192x256x4x32, .i32⟩
  | .hbm, ⟨18, _⟩ => ⟨S8192x128, .i32⟩
  | .hbm, ⟨19, _⟩ => ⟨S8192x4x32, .i32⟩
  | .hbm, ⟨20, _⟩ => ⟨S8192x256x4x24, .i32⟩
  | .hbm, ⟨21, _⟩ => ⟨S8192x256x4x24x4, .i8⟩
  | .hbm, ⟨22, _⟩ => ⟨S8192x256x4x96, .i8⟩
  | .hbm, ⟨23, _⟩ => ⟨S8192x256x4x96, .i32⟩
  | .hbm, ⟨24, _⟩ => ⟨S8192x256x4x96, .f32⟩
  | .hbm, ⟨25, _⟩ => ⟨S8192x256x4x96, .bf16⟩
  | .hbm, ⟨26, _⟩ => ⟨S8192x256x4x1, .i32⟩
  | .hbm, ⟨27, _⟩ => ⟨S8192x256x4, .i32⟩
  | .hbm, ⟨28, _⟩ => ⟨S_, .i32⟩
  | .hbm, ⟨29, _⟩ => ⟨S8192x256x4, .i32⟩
  | .hbm, ⟨30, _⟩ => ⟨S8192x256x4, .i32⟩
  | .hbm, ⟨31, _⟩ => ⟨S8192x256x4, .f32⟩
  | .hbm, ⟨32, _⟩ => ⟨S8192x4x256, .f32⟩
  | .hbm, ⟨33, _⟩ => ⟨S8192x4x24, .i32⟩
  | .hbm, ⟨34, _⟩ => ⟨S8192x4x24x4, .i8⟩
  | .hbm, ⟨35, _⟩ => ⟨S8192x4x96, .i8⟩
  | .hbm, ⟨36, _⟩ => ⟨S8192x4x96, .i32⟩
  | .hbm, ⟨37, _⟩ => ⟨S8192x4x96, .f32⟩
  | .hbm, ⟨38, _⟩ => ⟨S8192x4x96, .bf16⟩
  | .hbm, ⟨39, _⟩ => ⟨S8192x4x1, .i32⟩
  | .hbm, ⟨40, _⟩ => ⟨S8192x4, .i32⟩
  | .hbm, ⟨41, _⟩ => ⟨S_, .i32⟩
  | .hbm, ⟨42, _⟩ => ⟨S8192x4, .i32⟩
  | .hbm, ⟨43, _⟩ => ⟨S8192x4, .i32⟩
  | .hbm, ⟨44, _⟩ => ⟨S8192x4, .f32⟩
  | .hbm, ⟨45, _⟩ => ⟨S8192x4x1, .i32⟩
  | .hbm, ⟨46, _⟩ => ⟨S8192x4, .i32⟩
  | .hbm, ⟨47, _⟩ => ⟨S256, .i32⟩
  | .hbm, ⟨48, _⟩ => ⟨S1x1x256, .i32⟩
  | .hbm, ⟨49, _⟩ => ⟨S8192x4x1, .i32⟩
  | .hbm, ⟨50, _⟩ => ⟨S8192x4x256, .i32⟩
  | .hbm, ⟨51, _⟩ => ⟨S8192x4x256, .i32⟩
  | .hbm, ⟨52, _⟩ => ⟨S8192x4x256, .i1⟩
  | .hbm, ⟨53, _⟩ => ⟨S8192x4x256, .f32⟩
  | .hbm, ⟨54, _⟩ => ⟨S8192x4x1, .f32⟩
  | .hbm, ⟨55, _⟩ => ⟨S_, .f32⟩
  | .hbm, ⟨56, _⟩ => ⟨S8192x4x1, .f32⟩
  | .hbm, ⟨57, _⟩ => ⟨S8192x4x1, .f32⟩
  | .hbm, ⟨58, _⟩ => ⟨S8192x4x256, .f32⟩
  | .hbm, ⟨59, _⟩ => ⟨S8192x4x256, .f32⟩
  | .hbm, ⟨60, _⟩ => ⟨S8192x4x256, .f32⟩
  | .hbm, ⟨61, _⟩ => ⟨S_, .f32⟩
  | .hbm, ⟨62, _⟩ => ⟨S_, .f32⟩
  | .hbm, ⟨63, _⟩ => ⟨S8192x4x256, .f32⟩
  | .hbm, ⟨64, _⟩ => ⟨S8192x4x256, .f32⟩
  | .hbm, ⟨65, _⟩ => ⟨S_, .i32⟩
  | .hbm, ⟨66, _⟩ => ⟨S8192x4, .i32⟩
  | .hbm, ⟨67, _⟩ => ⟨S8192x4, .i1⟩
  | .hbm, ⟨68, _⟩ => ⟨S8192x4x1, .i1⟩
  | .hbm, ⟨69, _⟩ => ⟨S_, .f32⟩
  | .hbm, ⟨70, _⟩ => ⟨S_, .f32⟩
  | .hbm, ⟨71, _⟩ => ⟨S8192x4x256, .i1⟩
  | .hbm, ⟨72, _⟩ => ⟨S8192x4x256, .f32⟩
  | .hbm, ⟨73, _⟩ => ⟨S8192x4x256, .f32⟩
  | .hbm, ⟨74, _⟩ => ⟨S_, .f32⟩
  | .hbm, ⟨75, _⟩ => ⟨S8192x4, .f32⟩
  | .hbm, ⟨76, _⟩ => ⟨S_, .f32⟩
  | .hbm, ⟨77, _⟩ => ⟨S8192x4, .f32⟩
  | .hbm, ⟨78, _⟩ => ⟨S8192x4, .f32⟩
  | .hbm, ⟨79, _⟩ => ⟨S8192x4x1, .f32⟩
  | .hbm, ⟨80, _⟩ => ⟨S8192x4x256, .f32⟩
  | .hbm, ⟨81, _⟩ => ⟨S8192x4x256, .f32⟩
  | .hbm, ⟨82, _⟩ => ⟨S8192x4x256, .f32⟩
  | .hbm, ⟨83, _⟩ => ⟨S_, .f32⟩
  | .hbm, ⟨84, _⟩ => ⟨S8192x4, .f32⟩
  | .hbm, ⟨85, _⟩ => ⟨S8192x4x1, .f32⟩
  | .hbm, ⟨86, _⟩ => ⟨S8192x4x256, .f32⟩
  | .hbm, ⟨87, _⟩ => ⟨S8192x4x256, .f32⟩
  | .hbm, ⟨88, _⟩ => ⟨S_, .f32⟩
  | .hbm, ⟨89, _⟩ => ⟨S_, .f32⟩
  | .hbm, ⟨90, _⟩ => ⟨S8192x4x256, .i1⟩
  | .hbm, ⟨91, _⟩ => ⟨S8192x4x256, .f32⟩
  | .hbm, ⟨92, _⟩ => ⟨S8192x4x256, .f32⟩
  | .hbm, ⟨93, _⟩ => ⟨S8192x4x256, .f32⟩
  | .hbm, ⟨94, _⟩ => ⟨S_, .f32⟩
  | .hbm, ⟨95, _⟩ => ⟨S_, .f32⟩
  | .hbm, ⟨96, _⟩ => ⟨S8192x4x256, .f32⟩
  | .hbm, ⟨97, _⟩ => ⟨S8192x4x256, .f32⟩
  | .hbm, ⟨98, _⟩ => ⟨S8192x4x256, .bf16⟩
  | .hbm, ⟨99, _⟩ => ⟨S8192x4x96, .f32⟩
  | .hbm, ⟨100, _⟩ => ⟨S8192x4x96, .bf16⟩
  | _, _ => ⟨S262144x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_1 : Ref sig .tc := ⟨.hbm, 61, rfl⟩
abbrev main_call0_v0 : Ref sig .tc := ⟨.hbm, 62, rfl⟩
abbrev main_call0_v1 : Ref sig .tc := ⟨.hbm, 63, rfl⟩
abbrev main_v42 : Ref sig .tc := ⟨.hbm, 64, rfl⟩
abbrev main_c_2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_7 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v58 : Ref sig .tc := ⟨.hbm, 92, rfl⟩
abbrev main_v59 : Ref sig .tc := ⟨.hbm, 93, rfl⟩
abbrev main_cst_8 : Ref sig .tc := ⟨.hbm, 94, rfl⟩
abbrev main_call3_v0 : Ref sig .tc := ⟨.hbm, 95, rfl⟩
abbrev main_call3_v1 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩

abbrev nD : Nat := 1
abbrev τ : Topo := Topo.v7x

variable {F : FTy → Type} [FloatOps F]
-- ==== Pack.lean ====
abbrev S500000x96 : Shape := ⟨2, ![500000, 96]⟩
abbrev S500000 : Shape := ⟨1, ![500000]⟩
abbrev S96x500000 : Shape := ⟨2, ![96, 500000]⟩
abbrev S1x500000 : Shape := ⟨2, ![1, 500000]⟩
abbrev S126976x128 : Shape := ⟨2, ![126976, 128]⟩
abbrev S96x16384 : Shape := ⟨2, ![96, 16384]⟩
abbrev S1x16384 : Shape := ⟨2, ![1, 16384]⟩
abbrev S4096x128 : Shape := ⟨2, ![4096, 128]⟩
abbrev S24x16384 : Shape := ⟨2, ![24, 16384]⟩
abbrev S7x4096 : Shape := ⟨2, ![7, 4096]⟩
abbrev S24x4096 : Shape := ⟨2, ![24, 4096]⟩
abbrev S1x4096 : Shape := ⟨2, ![1, 4096]⟩
abbrev S128x4096 : Shape := ⟨2, ![128, 4096]⟩

abbrev nBuf : Space → Nat
  | .hbm => 5
  | .vmem => 6
  | .smem => 0
  | _ => 0

abbrev bufTy : (tb : Table) → Fin (tcTables nBuf tb) → BufTy
  | .hbm, ⟨0, _⟩ => ⟨S500000x96, .i8⟩
  | .hbm, ⟨1, _⟩ => ⟨S500000, .f32⟩
  | .hbm, ⟨2, _⟩ => ⟨S96x500000, .i8⟩
  | .hbm, ⟨3, _⟩ => ⟨S1x500000, .f32⟩
  | .hbm, ⟨4, _⟩ => ⟨S126976x128, .i32⟩
  | .local _ .vmem, ⟨0, _⟩ => ⟨S96x16384, .i8⟩
  | .local _ .vmem, ⟨1, _⟩ => ⟨S96x16384, .i8⟩
  | .local _ .vmem, ⟨2, _⟩ => ⟨S1x16384, .f32⟩
  | .local _ .vmem, ⟨3, _⟩ => ⟨S1x16384, .f32⟩
  | .local _ .vmem, ⟨4, _⟩ => ⟨S4096x128, .i32⟩
  | .local _ .vmem, ⟨5, _⟩ => ⟨S4096x128, .i32⟩
  | _, _ => ⟨S500000x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x16384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Table.lean ====
abbrev S500000x96 : Shape := ⟨2, ![500000, 96]⟩
abbrev S500000 : Shape := ⟨1, ![500000]⟩
abbrev S500000x24x4 : Shape := ⟨3, ![500000, 24, 4]⟩
abbrev S500000x24 : Shape := ⟨2, ![500000, 24]⟩
abbrev S_ : Shape := ⟨0, ![]⟩
abbrev S500000x1 : Shape := ⟨2, ![500000, 1]⟩
abbrev S500000x7 : Shape := ⟨2, ![500000, 7]⟩
abbrev S500000x32 : Shape := ⟨2, ![500000, 32]⟩
abbrev S7904x32 : Shape := ⟨2, ![7904, 32]⟩
abbrev S507904x32 : Shape := ⟨2, ![507904, 32]⟩
abbrev S31x4x4096x32 : Shape := ⟨4, ![31, 4, 4096, 32]⟩
abbrev S31x4096x4x32 : Shape := ⟨4, ![31, 4096, 4, 32]⟩
abbrev S126976x128 : Shape := ⟨2, ![126976, 128]⟩

abbrev nBuf : Space → Nat
  | .hbm => 18
  | .vmem => 0
  | .smem => 0
  | _ => 0

abbrev bufTy : (tb : Table) → Fin (tcTables nBuf tb) → BufTy
  | .hbm, ⟨0, _⟩ => ⟨S500000x96, .i8⟩
  | .hbm, ⟨1, _⟩ => ⟨S500000, .f32⟩
  | .hbm, ⟨2, _⟩ => ⟨S500000x24x4, .i8⟩
  | .hbm, ⟨3, _⟩ => ⟨S500000x24, .i32⟩
  | .hbm, ⟨4, _⟩ => ⟨S500000, .i32⟩
  | .hbm, ⟨5, _⟩ => ⟨S_, .i32⟩
  | .hbm, ⟨6, _⟩ => ⟨S500000, .i32⟩
  | .hbm, ⟨7, _⟩ => ⟨S500000, .i32⟩
  | .hbm, ⟨8, _⟩ => ⟨S500000x1, .i32⟩
  | .hbm, ⟨9, _⟩ => ⟨S_, .i32⟩
  | .hbm, ⟨10, _⟩ => ⟨S500000x7, .i32⟩
  | .hbm, ⟨11, _⟩ => ⟨S500000x32, .i32⟩
  | .hbm, ⟨12, _⟩ => ⟨S_, .i32⟩
  | .hbm, ⟨13, _⟩ => ⟨S7904x32, .i32⟩
  | .hbm, ⟨14, _⟩ => ⟨S507904x32, .i32⟩
  | .hbm, ⟨15, _⟩ => ⟨S31x4x4096x32, .i32⟩
  | .hbm, ⟨16, _⟩ => ⟨S31x4096x4x32, .i32⟩
  | .hbm, ⟨17, _⟩ => ⟨S126976x128, .i32⟩
  | _, _ => ⟨S500000x96, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [BitOps F]
-- ==== Proof.Blk.lean ====
module

public import proofs.«01_k».proof.Proof.Gen.KernelIdeal.Frame.Region1
public import Idealize.ShloMosaic.Lib.Pointwise
public import Idealize.ShloMosaic.Lib.Pipeline.ValueKit
public import Idealize.ShloMosaic.Lib.Pipeline.ReadBack

@[expose] public section

set_option maxRecDepth 16384

noncomputable section
namespace Cert.KernelIdeal.Blk
open Cert.KernelIdeal Cert.KernelIdeal.Gen
open Idealize.ShloMosaic Idealize.ShloMosaic.TcCoe Idealize.SL.Sem Idealize.ShloMosaic.Tactic

/-! What one grid point of the attention call stores, stated once per user instead of once per unrolled
store, as a function of the point's two input blocks. -/

/-- The number of the lane. -/
def lane : IVec S32x128 32 := iota .tc S32x128 32 [1] iota_S32x128_d1_w32
/-- The number of the row, of the scale-selecting rows. -/
def row12 : IVec S12x128 32 := iota .tc S12x128 32 [0] iota_S12x128_d0_w32
/-- The number of the lane, of the scale-selecting rows. -/
def lane12 : IVec S12x128 32 := iota .tc S12x128 32 [1] iota_S12x128_d1_w32
/-- Each target row's own words, 0 elsewhere. -/
def ownQ (q : IVec S8x128 32) : IVec S32x128 32 := k1_pay4 (F := Ideal) k1_pay2 q
/-- The match counts. -/
def count (q : IVec S8x128 32) : IVec S32x1 32 := k1_pay5 (F := Ideal) lane k1_pay2 32#32 0#1 q
/-- The target scales times the constant. -/
def qScale (q : IVec S8x128 32) : FVec Ideal S32x1 .f32 := k1_pay6 lane k1_pay2 32#32 0#1 q
/-- Where a target row's own code words lie. -/
def isCode : IVec S32x128 1 := k1_pay7 lane k1_pay2 32#32 0#1
/-- The target's byte 0 of every own code word. -/
def qByte0 (q : IVec S8x128 32) : FVec Ideal S32x128 .f32 := k1_pay9 (ownQ q) isCode k1_pay8
/-- The target's byte 1. -/
def qByte1 (q : IVec S8x128 32) : FVec Ideal S32x128 .f32 := k1_pay10 (ownQ q) isCode
/-- The target's byte 2. -/
def qByte2 (q : IVec S8x128 32) : FVec Ideal S32x128 .f32 := k1_pay11 (ownQ q) isCode
/-- The target's byte 3. -/
def qByte3 (q : IVec S8x128 32) : FVec Ideal S32x128 .f32 := k1_pay12 (ownQ q) isCode
/-- The lane of the scale word of each scale-selecting row. -/
def atScale : IVec S12x128 1 := k1_pay16 lane12 k1_pay13 k1_pay14 k1_pay15
/-- The rows that select the scale word's byte 0, with the weight 1. -/
def sel0 : FVec Ideal S12x128 .f32 := k1_pay17 row12 lane12 k1_pay13 k1_pay14 k1_pay15
/-- Its byte 1, with the weight 256. -/
def sel1 : FVec Ideal S12x128 .f32 := k1_pay21 row12 atScale 4#32 (k1_pay18 row12) (k1_pay19 row12) (k1_pay20 row12)
/-- Its byte 2, with the weight 1. -/
def sel2 : FVec Ideal S12x128 .f32 := k1_pay23 atScale (k1_pay22 row12)
/-- Its byte 3, with the weight 256. -/
def sel3 : FVec Ideal S12x128 .f32 := k1_pay24 row12 atScale

theorem slices_q (u : ℕ) (hu : u < 8) : S32x128.Slices ![4 * u, 0] S4x128 := by interval_cases u <;> decide
theorem slices_w (u : ℕ) (hu : u < 8) : S32x256.Slices ![4 * u, 0] S4x256 := by interval_cases u <;> decide
theorem slices_s (p : ℕ) (hp : p < 3) : S16x256.Slices ![4 * p, 0] S4x256 := by interval_cases p <;> decide
theorem slices_p (i : ℕ) (hi : i < 4) : S4x512.Slices ![0, 128 * i] S4x128 := by interval_cases i <;> decide
theorem inb_x (u : ℕ) (hu : u < 8) : ∀ a, (![256 * u, 0] : Fin 2 → Nat) a + S256x128.size a ≤ S2048x128.size a := by
  interval_cases u <;> decide
theorem inb_code (u i : ℕ) (hu : u < 8) (hi : i < 4) :
    ∀ a, (![u, 0, 128 * i] : Fin 3 → Nat) a + S1x256x128.size a ≤ S8x256x512.size a := by
  interval_cases u <;> interval_cases i <;> decide
theorem inb_user (u : ℕ) (hu : u < 8) :
    ∀ a, (![u, 0, 0] : Fin 3 → Nat) a + S1x256x512.size a ≤ S8x256x512.size a := by
  interval_cases u <;> decide
theorem inb_s (p u : ℕ) (hp : p < 3) (hu : u < 8) :
    ∀ a, (![p, 4 * u, 0] : Fin 3 → Nat) a + S1x4x256.size a ≤ S3x32x256.size a := by
  interval_cases p <;> interval_cases u <;> decide
theorem inb_sAll (p : ℕ) (hp : p < 3) :
    ∀ a, (![p, 0, 0] : Fin 3 → Nat) a + S1x32x256.size a ≤ S3x32x256.size a := by
  interval_cases p <;> decide
theorem inb_p (i u : ℕ) (hi : i < 4) (hu : u < 8) :
    ∀ a, (![i, 4 * u, 0] : Fin 3 → Nat) a + S1x4x128.size a ≤ S4x32x128.size a := by
  interval_cases i <;> interval_cases u <;> decide
theorem inb_pAll (i : ℕ) (hi : i < 4) :
    ∀ a, (![i, 0, 0] : Fin 3 → Nat) a + S1x32x128.size a ≤ S4x32x128.size a := by
  interval_cases i <;> decide

/-- One byte of every word, as a signed code: the word shifted left by `sh`, then right by 24. -/
def byteVec (sh : BitVec 32) (w : IVec S256x128 32) : FVec Ideal S256x128 .bf16 :=
  truncf .bf16 (sitofp .f32 (shrsi (shli w (broadcast S256x128 sh)) (broadcast S256x128 24#32))) bitsLt_bf16_f32
/-- The same as it is stored. -/
def codeTile (sh : BitVec 32) (w : IVec S256x128 32) : FVec Ideal S1x256x128 .bf16 :=
  shapeCast S1x256x128 (byteVec sh w) shapeCasts_S256x128_S1x256x128

/-- One 128-lane part of the left operand of user `u`'s score product. -/
def lhsPart (u : ℕ) (hu : u < 8) (qb : FVec Ideal S32x128 .f32) (sel : FVec Ideal S12x128 .f32) : FVec Ideal S16x128 .f32 :=
  concatenate S16x128 0 [⟨S4x128, extractStridedSlice S4x128 ![4 * u, 0] qb (slices_q u hu)⟩, ⟨S12x128, sel⟩]
    concatenates_S4x128_S12x128_S16x128_d0
/-- The left operand of user `u`'s score product. -/
def lhs (u : ℕ) (hu : u < 8) (q : IVec S8x128 32) : FVec Ideal S16x512 .bf16 :=
  truncf .bf16 (concatenate S16x512 1 [⟨S16x128, lhsPart u hu (qByte0 q) sel0⟩, ⟨S16x128, lhsPart u hu (qByte1 q) sel1⟩,
    ⟨S16x128, lhsPart u hu (qByte2 q) sel2⟩, ⟨S16x128, lhsPart u hu (qByte3 q) sel3⟩]
    concatenates_S16x128_S16x128_S16x128_S16x128_S16x512_d1) bitsLt_bf16_f32
/-- User `u`'s score product, from the codes loaded back. -/
def scoreMat (u : ℕ) (hu : u < 8) (q : IVec S8x128 32) (codes : FVec Ideal S1x256x512 .bf16) : FVec Ideal S16x256 .f32 :=
  matmul dot_S16x512_S256x512_S16x256_1_1_0_0_n_n none (lhs u hu q)
    (shapeCast S256x512 codes shapeCasts_S1x256x512_S256x512) (constant S16x256 .f32 0x00000000#32)
/-- Its rows of part `p` (the raw scores, the low and the high halves of the scales), as they are stored. -/
def scoreTile (p : ℕ) (hp : p < 3) (u : ℕ) (hu : u < 8) (q : IVec S8x128 32) (codes : FVec Ideal S1x256x512 .bf16) : FVec Ideal S1x4x256 .f32 :=
  shapeCast S1x4x256 (extractStridedSlice S4x256 ![4 * p, 0] (scoreMat u hu q codes) (slices_s p hp)) shapeCasts_S4x256_S1x4x256
/-- User `u`'s pooling product: the scaled weights against the codes. -/
def poolMat (u : ℕ) (hu : u < 8) (ws : FVec Ideal S32x256 .f32) (codes : FVec Ideal S1x256x512 .bf16) : FVec Ideal S4x512 .f32 :=
  matmul dot_S4x256_S256x512_S4x512_1_0_0_1_n_n none
    (truncf .bf16 (extractStridedSlice S4x256 ![4 * u, 0] ws (slices_w u hu)) bitsLt_bf16_f32)
    (shapeCast S256x512 codes shapeCasts_S1x256x512_S256x512) (constant S4x512 .f32 0x00000000#32)
/-- Its 128 lanes of byte `i`, as they are stored. -/
def poolTile (i : ℕ) (hi : i < 4) (u : ℕ) (hu : u < 8) (ws : FVec Ideal S32x256 .f32) (codes : FVec Ideal S1x256x512 .bf16) : FVec Ideal S1x4x128 .f32 :=
  shapeCast S1x4x128 (extractStridedSlice S4x128 ![0, 128 * i] (poolMat u hu ws codes) (slices_p i hi)) shapeCasts_S4x128_S1x4x128

/-- The lane each output lane takes its value from. -/
def srcLane : IVec S32x128 32 := kernelRun1_A.sl.v1013
/-- The same as the gather reads it. -/
def gatherIdx : IVec S32x128 32 := kernelRun1_A.sl.v1022
/-- One byte's pooled lanes, gathered. -/
def gathered (p : FVec Ideal S1x32x128 .f32) : FVec Ideal S32x128 .f32 :=
  dynamicGather 1 (shapeCast S32x128 p shapeCasts_S1x32x128_S32x128) gatherIdx
/-- The pooled codes of one grid point from the four bytes' pooled lanes. -/
def pooledOf (p0 p1 p2 p3 : FVec Ideal S1x32x128 .f32) : FVec Ideal S8x4x96 .bf16 :=
  k1_pay1 (select (cmpi .slt kernelRun1_A.sl.v1049 (broadcast S32x128 2#32))
      (select (cmpi .slt kernelRun1_A.sl.v1049 (broadcast S32x128 1#32)) (gathered p0) (gathered p1)) (gathered p2))
    (gathered p3) 4#32 (k1_pay166 lane) (k1_pay167 lane)

section
variable (c : Dev nD) (i : grid1.Coords) (arg1 : Memref sig .tc .vmem S2048x128 .i32) (harg1 : arg1.IsWhole) (arg2 : Memref sig .tc .vmem S8x128 .i32) (harg2 : arg2.IsWhole) (arg5 : Memref sig .tc .vmem S8x4x96 .bf16) (harg5 : arg5.IsWhole) (arg6 : Memref sig .tc .vmem S8x4x256 .f32) (harg6 : arg6.IsWhole) (arg7 : Memref sig .tc .vmem S8x256x512 .bf16) (harg7 : arg7.IsWhole) (arg8 : Memref sig .tc .vmem S3x32x256 .f32) (harg8 : arg8.IsWhole) (arg9 : Memref sig .tc .vmem S4x32x128 .f32) (harg9 : arg9.IsWhole)
    (x0 : Vec Ideal S2048x128 .i32) (x1 : Vec Ideal S8x128 .i32)

/-- The words of user `u`'s rows, as the run loads them. -/
def words (u : ℕ) (hu : u < 8) : IVec S256x128 32 :=
  View.readAt (Elt Ideal) arg1.view (Rect.unit (s := S2048x128) ![256 * u, 0] S256x128.size (inb_x u hu)).toLoadRect (harg1.unread x0)
/-- The target rows, as the run loads them. -/
def targets : IVec S8x128 32 :=
  View.readAt (Elt Ideal) arg2.view (Rect.unit ![0, 0] S8x128.size inb_S8x128_S8x128_0_0).toLoadRect (harg2.unread x1)

/-- The four stores of user `u`'s codes, the last first. -/
def codePieces (u : ℕ) (hu : u < 8) : List (View.Piece (Elt Ideal) S8x256x512 .bf16) :=
  [⟨Rect.unit (s := S8x256x512) ![u, 0, 128 * 3] S1x256x128.size (inb_code u 3 hu (by decide)), codeTile 0#32 (words arg1 harg1 x0 u hu)⟩,
   ⟨Rect.unit (s := S8x256x512) ![u, 0, 128 * 2] S1x256x128.size (inb_code u 2 hu (by decide)), codeTile 8#32 (words arg1 harg1 x0 u hu)⟩,
   ⟨Rect.unit (s := S8x256x512) ![u, 0, 128 * 1] S1x256x128.size (inb_code u 1 hu (by decide)), codeTile 16#32 (words arg1 harg1 x0 u hu)⟩,
   ⟨Rect.unit (s := S8x256x512) ![u, 0, 128 * 0] S1x256x128.size (inb_code u 0 hu (by decide)), codeTile 24#32 (words arg1 harg1 x0 u hu)⟩]
/-- The code stores of the first `n` users. -/
def codesTo : (n : ℕ) → n ≤ 8 → List (View.Piece (Elt Ideal) S8x256x512 .bf16)
  | 0, _ => []
  | n + 1, h => codePieces arg1 harg1 x0 n h ++ codesTo n (Nat.le_of_succ_le h)
/-- User `u`'s codes as loaded back after the first `n` users' stores. -/
def codesAt (n : ℕ) (hn : n ≤ 8) (u : ℕ) (hu : u < 8) : FVec Ideal S1x256x512 .bf16 :=
  arg7.view.readCov (codesTo arg1 harg1 x0 n hn) (Rect.unit (s := S8x256x512) ![u, 0, 0] S1x256x512.size (inb_user u hu)).toLoadRect

/-- The three stores of user `u`'s score product, the last first. -/
def scorePieces (u : ℕ) (hu : u < 8) : List (View.Piece (Elt Ideal) S3x32x256 .f32) :=
  [⟨Rect.unit (s := S3x32x256) ![2, 4 * u, 0] S1x4x256.size (inb_s 2 u (by decide) hu), scoreTile 2 (by decide) u hu (targets arg2 harg2 x1) (codesAt arg1 harg1 arg7 x0 (u + 1) hu u hu)⟩,
   ⟨Rect.unit (s := S3x32x256) ![1, 4 * u, 0] S1x4x256.size (inb_s 1 u (by decide) hu), scoreTile 1 (by decide) u hu (targets arg2 harg2 x1) (codesAt arg1 harg1 arg7 x0 (u + 1) hu u hu)⟩,
   ⟨Rect.unit (s := S3x32x256) ![0, 4 * u, 0] S1x4x256.size (inb_s 0 u (by decide) hu), scoreTile 0 (by decide) u hu (targets arg2 harg2 x1) (codesAt arg1 harg1 arg7 x0 (u + 1) hu u hu)⟩]
/-- The score stores of the first `n` users. -/
def scoresTo : (n : ℕ) → n ≤ 8 → List (View.Piece (Elt Ideal) S3x32x256 .f32)
  | 0, _ => []
  | n + 1, h => scorePieces arg1 harg1 arg2 harg2 arg7 x0 x1 n h ++ scoresTo n (Nat.le_of_succ_le h)
/-- Part `p` of every user's score rows, as loaded back. -/
def scoresAt (p : ℕ) (hp : p < 3) : FVec Ideal S1x32x256 .f32 :=
  arg8.view.readCov (scoresTo arg1 harg1 arg2 harg2 arg7 x0 x1 8 (le_refl 8)) (Rect.unit (s := S3x32x256) ![p, 0, 0] S1x32x256.size (inb_sAll p hp)).toLoadRect

/-- The weights of one grid point from the three loaded parts. -/
def weightsOf (q : IVec S8x128 32) (s0 s1 s2 : FVec Ideal S1x32x256 .f32) : FVec Ideal S8x4x256 .f32 :=
  k1_pay108 (count q) (qScale q) (k1_pay101 s0) (k1_pay102 (F := Ideal) s1) (k1_pay103 (F := Ideal) s2) k1_pay104
/-- The weights times the key scales. -/
def scaledOf (q : IVec S8x128 32) (s0 s1 s2 : FVec Ideal S1x32x256 .f32) : FVec Ideal S32x256 .f32 :=
  k1_pay109 (count q) (qScale q) (k1_pay101 s0) (k1_pay102 (F := Ideal) s1) (k1_pay103 (F := Ideal) s2) k1_pay104
/-- The weights a grid point stores. -/
def weightsPt : FVec Ideal S8x4x256 .f32 :=
  weightsOf (targets arg2 harg2 x1) (scoresAt arg1 harg1 arg2 harg2 arg7 arg8 x0 x1 0 (by decide))
    (scoresAt arg1 harg1 arg2 harg2 arg7 arg8 x0 x1 1 (by decide)) (scoresAt arg1 harg1 arg2 harg2 arg7 arg8 x0 x1 2 (by decide))
/-- The scaled weights of a grid point. -/
def scaledPt : FVec Ideal S32x256 .f32 :=
  scaledOf (targets arg2 harg2 x1) (scoresAt arg1 harg1 arg2 harg2 arg7 arg8 x0 x1 0 (by decide))
    (scoresAt arg1 harg1 arg2 harg2 arg7 arg8 x0 x1 1 (by decide)) (scoresAt arg1 harg1 arg2 harg2 arg7 arg8 x0 x1 2 (by decide))

/-- The four stores of user `u`'s pooling product, the last first. -/
def poolPieces (u : ℕ) (hu : u < 8) : List (View.Piece (Elt Ideal) S4x32x128 .f32) :=
  [⟨Rect.unit (s := S4x32x128) ![3, 4 * u, 0] S1x4x128.size (inb_p 3 u (by decide) hu), poolTile 3 (by decide) u hu (scaledPt arg1 harg1 arg2 harg2 arg7 arg8 x0 x1) (codesAt arg1 harg1 arg7 x0 8 (le_refl 8) u hu)⟩,
   ⟨Rect.unit (s := S4x32x128) ![2, 4 * u, 0] S1x4x128.size (inb_p 2 u (by decide) hu), poolTile 2 (by decide) u hu (scaledPt arg1 harg1 arg2 harg2 arg7 arg8 x0 x1) (codesAt arg1 harg1 arg7 x0 8 (le_refl 8) u hu)⟩,
   ⟨Rect.unit (s := S4x32x128) ![1, 4 * u, 0] S1x4x128.size (inb_p 1 u (by decide) hu), poolTile 1 (by decide) u hu (scaledPt arg1 harg1 arg2 harg2 arg7 arg8 x0 x1) (codesAt arg1 harg1 arg7 x0 8 (le_refl 8) u hu)⟩,
   ⟨Rect.unit (s := S4x32x128) ![0, 4 * u, 0] S1x4x128.size (inb_p 0 u (by decide) hu), poolTile 0 (by decide) u hu (scaledPt arg1 harg1 arg2 harg2 arg7 arg8 x0 x1) (codesAt arg1 harg1 arg7 x0 8 (le_refl 8) u hu)⟩]
/-- The pooling stores of the first `n` users. -/
def poolsTo : (n : ℕ) → n ≤ 8 → List (View.Piece (Elt Ideal) S4x32x128 .f32)
  | 0, _ => []
  | n + 1, h => poolPieces arg1 harg1 arg2 harg2 arg7 arg8 x0 x1 n h ++ poolsTo n (Nat.le_of_succ_le h)
/-- Byte `i` of every user's pooled lanes, as loaded back. -/
def poolAt (k : ℕ) (hk : k < 4) : FVec Ideal S1x32x128 .f32 :=
  arg9.view.readCov (poolsTo arg1 harg1 arg2 harg2 arg7 arg8 x0 x1 8 (le_refl 8)) (Rect.unit (s := S4x32x128) ![k, 0, 0] S1x32x128.size (inb_pAll k hk)).toLoadRect
/-- The pooled codes a grid point stores. -/
def pooledPt : FVec Ideal S8x4x96 .bf16 :=
  pooledOf (poolAt arg1 harg1 arg2 harg2 arg7 arg8 arg9 x0 x1 0 (by decide)) (poolAt arg1 harg1 arg2 harg2 arg7 arg8 arg9 x0 x1 1 (by decide))
    (poolAt arg1 harg1 arg2 harg2 arg7 arg8 arg9 x0 x1 2 (by decide)) (poolAt arg1 harg1 arg2 harg2 arg7 arg8 arg9 x0 x1 3 (by decide))

/-- The run's one store of the weights. -/
theorem run_weights : (kernelRun1_A c i arg1 harg1 arg2 harg2 arg5 harg5 arg6 harg6 arg7 harg7 arg8 harg8 arg9 harg9 x0 x1).2.1
    = [⟨Rect.unit ![0, 0, 0] S8x4x256.size inb_S8x4x256_S8x4x256_0_0_0, weightsPt arg1 harg1 arg2 harg2 arg7 arg8 x0 x1⟩] := by
  sl_kernel_rfl
/-- The run's one store of the pooled codes. -/
theorem run_pooled : (kernelRun1_A c i arg1 harg1 arg2 harg2 arg5 harg5 arg6 harg6 arg7 harg7 arg8 harg8 arg9 harg9 x0 x1).1
    = [⟨Rect.unit ![0, 0, 0] S8x4x96.size inb_S8x4x96_S8x4x96_0_0_0, pooledPt arg1 harg1 arg2 harg2 arg7 arg8 arg9 x0 x1⟩] := by
  sl_kernel_rfl
end
end Cert.KernelIdeal.Blk
-- ==== Proof.Spec.lean ====
module

public import Idealize.ShloMosaic.Lib.Pointwise

@[expose] public section

set_option maxRecDepth 16384

noncomputable section
namespace Cert.Spec
open Idealize.ShloMosaic

/-! The attention of one user and one target over that user's gathered rows, in extended reals: what both programs
compute. `q` is the user's packed target row and `x` the 256 gathered rows: 128 words each, 32 words a target, of
which words 0 to 23 hold four signed codes each, word 24 the scale and (in `q`) word 25 the match count. -/

/-- A signed byte of a word, as the number it stands for: byte `i` moved to the top, then down with its sign. -/
def codeAt (i : ℕ) (w : BitVec 32) : EReal :=
  FloatOps.sitofp (F := Ideal) .f32 (IntOp.shrsi .vector (IntOp.shli .vector w (BitVec.ofNat 32 (24 - 8 * i))) 24#32)
/-- A scale word's value. -/
def scaleAt (w : BitVec 32) : EReal := Ideal.ofBits .f32 (IntOp.xori w 2155905152#32)

variable (q : Fin 128 → BitVec 32) (x : Fin 256 → Fin 128 → BitVec 32) (t : Fin 4)

/-- Word `j` of a target's 32. -/
def at32 (t : Fin 4) (j : ℕ) (hj : j < 32) : Fin 128 := ⟨32 * t + j, by omega⟩
/-- The word that holds code `d`. -/
def atCode (t : Fin 4) (d : Fin 96) : Fin 128 := at32 t (d / 4) (by omega)

/-- The product of the target's codes with row `k`'s. -/
def raw (k : Fin 256) : EReal := ∑ d : Fin 96, codeAt (d % 4) (q (atCode t d)) * codeAt (d % 4) (x k (atCode t d))
/-- The match count. -/
def count : BitVec 32 := q (at32 t 25 (by decide))
/-- Whether row `k` lies before the count. -/
def live (k : Fin 256) : BitVec 1 := IntOp.cmpi .slt (BitVec.ofNat 32 k) (count q t)
/-- Whether there is no match. -/
def none : BitVec 1 := IntOp.cmpi .eq (count q t) 0#32
/-- Row `k`'s scale. -/
def keyScale (k : Fin 256) : EReal := scaleAt (x k (at32 t 24 (by decide)))
/-- Row `k`'s score. -/
def score (k : Fin 256) : EReal :=
  Scalar.select (live q t k) (raw q x t k * (scaleAt (q (at32 t 24 (by decide))) * Ideal.ofBits .f32 0x3DD105EC#32) * keyScale x t k) (Ideal.ofBits .f32 0xFF800000#32)
/-- The largest score. -/
def top : EReal := (Finset.univ : Finset (Fin 256)).fold max (Ideal.ofBits .f32 0xFF800000#32) (score q x t)
/-- The exponential of a score less the largest. -/
def expo (k : Fin 256) : EReal := Ideal.exp (score q x t k - top q x t)
/-- The sum of the exponentials. -/
def total : EReal := ∑ k : Fin 256, expo q x t k
/-- Row `k`'s weight. -/
def weight (k : Fin 256) : EReal := Scalar.select (none q t) 0 (Ideal.div (expo q x t k) (total q x t))
/-- The weight times the row's scale, 0 past the count. -/
def scaled (k : Fin 256) : EReal := Scalar.select (live q t k) (weight q x t k * keyScale x t k) 0
/-- The pooled code `d`. -/
def pooled (d : Fin 96) : EReal := ∑ k : Fin 256, scaled q x t k * codeAt (d % 4) (x k (atCode t d))

end Cert.Spec
-- ==== Proof.BlkCodes.lean ====
module

public import proofs.«01_k».proof.Proof.Blk
public import proofs.«01_k».proof.Proof.Spec

@[expose] public section

set_option maxRecDepth 16384

noncomputable section
namespace Cert.KernelIdeal.Blk
open Cert.KernelIdeal Cert.KernelIdeal.Gen
open Cert.Spec (codeAt)
open Idealize.ShloMosaic Idealize.ShloMosaic.TcCoe Idealize.SL.Sem Idealize.ShloMosaic.Tactic

/-! The codes a grid point stores and loads back, read at an index. -/

/-- Where an index of a three-axis box lies in the buffer. -/
theorem unit_emb3 {n0 n1 n2 m0 m1 m2 a b c : ℕ}
    (inb : ∀ x, (![a, b, c] : Fin 3 → ℕ) x + (![m0, m1, m2] : Fin 3 → ℕ) x ≤ (![n0, n1, n2] : Fin 3 → ℕ) x)
    (i : Fin m0) (j : Fin m1) (k : Fin m2) :
    (Rect.unit (s := ⟨3, ![n0, n1, n2]⟩) ![a, b, c] ![m0, m1, m2] inb).emb (ix3 i j k)
      = ix3 ⟨a + i, lt_of_lt_of_le (Nat.add_lt_add_left i.2 a) (inb 0)⟩ ⟨b + j, lt_of_lt_of_le (Nat.add_lt_add_left j.2 b) (inb 1)⟩
          ⟨c + k, lt_of_lt_of_le (Nat.add_lt_add_left k.2 c) (inb 2)⟩ := by
  funext d
  refine Fin.ext ?_
  match d with
  | 0 => exact (Rect.idx_unit_val _ _ _ _ _).trans rfl
  | 1 => exact (Rect.idx_unit_val _ _ _ _ _).trans rfl
  | 2 => exact (Rect.idx_unit_val _ _ _ _ _).trans rfl

theorem codeTile_at (sh : BitVec 32) (w : IVec S256x128 32) (a : Fin 1) (k : Fin 256) (l : Fin 128) :
    codeTile sh w (ix3 a k l) = FloatOps.sitofp (F := Ideal) .f32 (IntOp.shrsi .vector (IntOp.shli .vector (w (ix2 k l)) sh) 24#32) := by
  pointwise [codeTile, byteVec]

section
variable (arg1 : Memref sig .tc .vmem S2048x128 .i32) (harg1 : arg1.IsWhole) (arg2 : Memref sig .tc .vmem S8x128 .i32) (harg2 : arg2.IsWhole)
    (arg7 : Memref sig .tc .vmem S8x256x512 .bf16)
    (x0 : IVec S2048x128 32) (x1 : IVec S8x128 32)

theorem words_at (u : ℕ) (hu : u < 8) (k : Fin 256) (l : Fin 128) :
    words arg1 harg1 x0 u hu (ix2 k l) = x0 (ix2 ⟨256 * u + k, by omega⟩ l) := by
  unfold words
  rw [View.readAt_eq_ld, Memref.IsWhole.read_unread]
  pointwise

theorem targets_eq : targets arg2 harg2 x1 = x1 := by
  unfold targets
  rw [View.readAt_eq_ld, Memref.IsWhole.read_unread]
  exact View.ld_unit_zero (by decide) _ _

/-- The code scratch as one array: user, row, then 128 lanes of each of the four bytes. -/
def codesG : S8x256x512.Idx → EReal := fun y =>
  codeAt ((y 2 : ℕ) / 128) (x0 (ix2 ⟨256 * (y 0 : ℕ) + (y 1 : ℕ), by have h0 : (y 0 : ℕ) < 8 := (y 0).2; have h1 : (y 1 : ℕ) < 256 := (y 1).2; omega⟩
    ⟨(y 2 : ℕ) % 128, Nat.mod_lt _ (by decide)⟩))

theorem codesG_at (u : Fin 8) (k : Fin 256) (l : Fin 512) :
    codesG x0 (ix3 u k l) = codeAt (l / 128) (x0 (ix2 ⟨256 * u + k, by omega⟩ ⟨l % 128, Nat.mod_lt _ (by decide)⟩)) := rfl

theorem code_piece (u : ℕ) (hu : u < 8) (i : ℕ) (hi : i < 4) (sh : BitVec 32) (hsh : sh = BitVec.ofNat 32 (24 - 8 * i))
    (y : S1x256x128.Idx) :
    codeTile sh (words arg1 harg1 x0 u hu) y
      = codesG x0 ((Rect.unit (s := S8x256x512) ![u, 0, 128 * i] S1x256x128.size (inb_code u i hu hi)).emb y) := by
  idx_vars y
  subst hsh
  refine ((codeTile_at _ _ y0 y1 y2).trans ?_).trans (congrArg (codesG x0) (unit_emb3 (inb_code u i hu hi) y0 y1 y2)).symm
  have h0 : (y0 : ℕ) < 1 := y0.2
  have h2 : (y2 : ℕ) < 128 := y2.2
  show codeAt i _ = codeAt ((128 * i + (y2 : ℕ)) / 128) _
  have e1 : (128 * i + (y2 : ℕ)) / 128 = i := by omega
  rw [words_at, e1]
  refine congrArg (fun z => codeAt i (x0 z)) ?_
  funext d
  refine Fin.ext ?_
  match d with
  | 0 => show 256 * u + (y1 : ℕ) = 256 * (u + (y0 : ℕ)) + (0 + (y1 : ℕ)); omega
  | 1 => show (y2 : ℕ) = (128 * i + (y2 : ℕ)) % 128; omega

theorem code_congr {i j : ℕ} {y z : S2048x128.Idx} (h : i = j) (h' : y = z) : codeAt i (x0 y) = codeAt j (x0 z) := by
  rw [h, h']

/-- The stores of a list keep what the list before them keeps. -/
theorem piecesOf_append {s : Shape} {t : _} (G : (s.Idx → (Elt Ideal) t)) (L L' : List (View.Piece (Elt Ideal) s t))
    (h : View.PiecesOf G L) (h' : View.PiecesOf G L') : View.PiecesOf G (L ++ L') := by
  induction L with
  | nil => exact h'
  | cons p L ih => exact ⟨h.1, ih h.2⟩

theorem codes_of (n : ℕ) (hn : n ≤ 8) : View.PiecesOf (codesG x0) (codesTo arg1 harg1 x0 n hn) := by
  induction n with
  | zero => exact trivial
  | succ n ih =>
    refine piecesOf_append _ _ _ ?_ (ih _)
    exact ⟨code_piece arg1 harg1 x0 n hn 3 (by decide) _ rfl, code_piece arg1 harg1 x0 n hn 2 (by decide) _ rfl,
      code_piece arg1 harg1 x0 n hn 1 (by decide) _ rfl, code_piece arg1 harg1 x0 n hn 0 (by decide) _ rfl, trivial⟩

/-- Every index of a stored user lies in one of the stores. -/
theorem codes_cover (n : ℕ) (hn : n ≤ 8) (u : ℕ) (hu : u < n) (y : S8x256x512.Idx) (hy : (y 0 : ℕ) = u) :
    ∃ p ∈ codesTo arg1 harg1 x0 n hn, y ∈ p.1.set := by
  induction n with
  | zero => omega
  | succ n ih =>
    by_cases h : u = n
    · subst h
      have h1 : (y 1 : ℕ) < 256 := (y 1).2
      have h2 : (y 2 : ℕ) < 512 := (y 2).2
      have key : ∀ i (hi : i < 4), (y 2 : ℕ) / 128 = i →
          y ∈ (Rect.unit (s := S8x256x512) ![u, 0, 128 * i] S1x256x128.size (inb_code u i hn hi)).set := by
        intro i hi e
        rw [Rect.mem_set_unit]
        intro a
        match a with
        | 0 => show u ≤ (y 0 : ℕ) ∧ (y 0 : ℕ) < u + 1; omega
        | 1 => show 0 ≤ (y 1 : ℕ) ∧ (y 1 : ℕ) < 0 + 256; omega
        | 2 => show 128 * i ≤ (y 2 : ℕ) ∧ (y 2 : ℕ) < 128 * i + 128; omega
      have hc : (y 2 : ℕ) / 128 = 3 ∨ (y 2 : ℕ) / 128 = 2 ∨ (y 2 : ℕ) / 128 = 1 ∨ (y 2 : ℕ) / 128 = 0 := by omega
      rcases hc with e | e | e | e
      · exact ⟨_, List.mem_append_left _ (List.mem_cons_self ..), key 3 (by decide) e⟩
      · exact ⟨_, List.mem_append_left _ (List.mem_cons_of_mem _ (List.mem_cons_self ..)), key 2 (by decide) e⟩
      · exact ⟨_, List.mem_append_left _ (List.mem_cons_of_mem _ (List.mem_cons_of_mem _ (List.mem_cons_self ..))), key 1 (by decide) e⟩
      · exact ⟨_, List.mem_append_left _ (List.mem_cons_of_mem _ (List.mem_cons_of_mem _ (List.mem_cons_of_mem _ (List.mem_cons_self ..)))), key 0 (by decide) e⟩
    · obtain ⟨p, hp, hm⟩ := ih (Nat.le_of_succ_le hn) (by omega)
      exact ⟨p, List.mem_append_right _ hp, hm⟩

/-- A user's codes as loaded back, at an index. -/
theorem codesAt_at (n : ℕ) (hn : n ≤ 8) (u : ℕ) (hu : u < 8) (hun : u < n) (a : Fin 1) (k : Fin 256) (l : Fin 512) :
    codesAt arg1 harg1 arg7 x0 n hn u hu (ix3 a k l)
      = codeAt (l / 128) (x0 (ix2 ⟨256 * u + k, by omega⟩ ⟨l % 128, Nat.mod_lt _ (by decide)⟩)) := by
  unfold codesAt
  rw [View.readCov_eq_canon']
  show View.canon _ ((Rect.unit (s := S8x256x512) ![u, 0, 0] S1x256x512.size (inb_user u hu)).emb (ix3 a k l)) = _
  rw [unit_emb3 (inb_user u hu) a k l]
  have ha : (a : ℕ) = 0 := by omega
  refine (View.canon_apply_of_pieces (codesG x0) _ (codes_of arg1 harg1 x0 n hn).mem _ ?_).trans ?_
  · exact codes_cover arg1 harg1 x0 n hn u hun _ (show u + (a : ℕ) = u by omega)
  · refine code_congr x0 (show (0 + (l : ℕ)) / 128 = l / 128 by omega) ?_
    funext d
    refine Fin.ext ?_
    match d with
    | 0 => show 256 * (u + (a : ℕ)) + (0 + (k : ℕ)) = 256 * u + k; omega
    | 1 => show (0 + (l : ℕ)) % 128 = l % 128; omega

end
end Cert.KernelIdeal.Blk
-- ==== Proof.BlkMasks.lean ====
module

public import proofs.«01_k».proof.Proof.Blk

@[expose] public section

set_option maxRecDepth 16384

noncomputable section
namespace Cert.KernelIdeal.Blk
open Cert.KernelIdeal Cert.KernelIdeal.Gen
open Idealize.ShloMosaic Idealize.ShloMosaic.TcCoe Idealize.SL.Sem Idealize.ShloMosaic.Tactic

/-! The lane and row masks of the attention call, the target operand and the scale-selecting rows, at an index. -/

/-- The rows' quarter. -/
def quarter : IVec S12x128 32 := k1_pay22 row12
def maskLo : IVec S12x128 1 := andi atScale (cmpi .eq quarter (broadcast S12x128 0#32))
def maskHi : IVec S12x128 1 := andi atScale (cmpi .eq quarter (broadcast S12x128 1#32))

theorem maskLo_at : ∀ (r : Fin 12) (l : Fin 128), maskLo (ix2 r l) = if (r : ℕ) / 4 = 0 ∧ (l : ℕ) = 32 * (r % 4) + 24 then 1#1 else 0#1 := by
  decide +kernel
theorem maskHi_at : ∀ (r : Fin 12) (l : Fin 128), maskHi (ix2 r l) = if (r : ℕ) / 4 = 1 ∧ (l : ℕ) = 32 * (r % 4) + 24 then 1#1 else 0#1 := by
  decide +kernel

theorem sel0_eq : sel0 = select maskLo (broadcast S12x128 (Scalar.ofBits .f32 0x3F800000#32)) (broadcast S12x128 (Scalar.ofBits .f32 0x00000000#32)) := rfl
theorem sel1_eq : sel1 = select maskLo (broadcast S12x128 (Scalar.ofBits .f32 0x43800000#32)) (broadcast S12x128 (Scalar.ofBits .f32 0x00000000#32)) := rfl
theorem sel2_eq : sel2 = select maskHi (broadcast S12x128 (Scalar.ofBits .f32 0x3F800000#32)) (broadcast S12x128 (Scalar.ofBits .f32 0x00000000#32)) := rfl
theorem sel3_eq : sel3 = select maskHi (broadcast S12x128 (Scalar.ofBits .f32 0x43800000#32)) (broadcast S12x128 (Scalar.ofBits .f32 0x00000000#32)) := rfl

theorem own_at : ∀ (r : Fin 32) (l : Fin 128), k1_pay2 (ix2 r l) = if (l : ℕ) / 32 = r % 4 then 1#1 else 0#1 := by
  decide +kernel
theorem isCode_at : ∀ (r : Fin 32) (l : Fin 128), isCode (ix2 r l) = if (l : ℕ) / 32 = r % 4 ∧ (l : ℕ) % 32 < 24 then 1#1 else 0#1 := by
  decide +kernel
theorem word_at : ∀ (r : Fin 32) (l : Fin 128), k1_pay3 lane 32#32 0#1 (ix2 r l) = BitVec.ofNat 32 ((l : ℕ) % 32) := by
  decide +kernel
theorem srcLane_at : ∀ (r : Fin 32) (l : Fin 128), gatherIdx (ix2 r l) = BitVec.ofNat 32 (32 * (r % 4) + min (l / 4) 23) := by
  decide +kernel
theorem byteNo_at : ∀ (r : Fin 32) (l : Fin 128), (kernelRun1_A.sl.v1049 : IVec S32x128 32) (ix2 r l) = BitVec.ofNat 32 (l % 4) := by
  decide +kernel

end Cert.KernelIdeal.Blk
-- ==== Proof.BlkRows.lean ====
module

public import proofs.«01_k».proof.Proof.BlkCodes
public import proofs.«01_k».proof.Proof.BlkMasks
public import Idealize.ShloMosaic.Lib.WordSum
public import Idealize.ShloMosaic.Lib.IdealHost

@[expose] public section

set_option maxRecDepth 16384

noncomputable section
namespace Cert.KernelIdeal.Blk
open Cert.KernelIdeal Cert.KernelIdeal.Gen
open Cert.Spec (codeAt)
open Idealize.ShloMosaic Idealize.ShloMosaic.TcCoe Idealize.SL.Sem Idealize.ShloMosaic.Tactic

/-! The target operand, the counts, the target scales and the scale-selecting rows, at an index. -/

/-- The words of the user a row belongs to. -/
theorem rows_at (q : IVec S8x128 32) (r : Fin 32) (l : Fin 128) :
    (shapeCast S32x128 (broadcastTo S8x4x128 (shapeCast S8x1x128 (shapeCast S8x1x128 q shapeCasts_S8x128_S8x1x128) shapeCasts_S8x1x128_S8x1x128)
      broadcasts_S8x1x128_S8x4x128) shapeCasts_S8x4x128_S32x128 : IVec S32x128 32) (ix2 r l) = q (ix2 ⟨r / 4, by omega⟩ l) := by
  pointwise

theorem ownQ_at (q : IVec S8x128 32) (r : Fin 32) (l : Fin 128) :
    ownQ q (ix2 r l) = if (l : ℕ) / 32 = r % 4 then q (ix2 ⟨r / 4, by omega⟩ l) else 0#32 := by
  have h : ownQ q (ix2 r l) = Scalar.select (k1_pay2 (ix2 r l)) (q (ix2 ⟨r / 4, by omega⟩ l)) 0#32 :=
    congrArg (fun w => Scalar.select (k1_pay2 (ix2 r l)) w 0#32) (rows_at q r l)
  rw [h, own_at]
  split_ifs <;> rfl

/-- A target's byte at a lane of its operand: the code where the lane holds one of its own code words, else 0. -/
theorem qByte_at (i : ℕ) (q : IVec S8x128 32) (r : Fin 32) (l : Fin 128) :
    FloatOps.sitofp (F := Ideal) .f32 (Scalar.select (isCode (ix2 r l)) (IntOp.shrsi .vector (IntOp.shli .vector (ownQ q (ix2 r l)) (BitVec.ofNat 32 (24 - 8 * i))) 24#32) 0#32)
      = if (l : ℕ) / 32 = r % 4 ∧ (l : ℕ) % 32 < 24 then codeAt i (q (ix2 ⟨r / 4, by omega⟩ l)) else 0 := by
  rw [isCode_at, ownQ_at]
  by_cases h : (l : ℕ) / 32 = r % 4 ∧ (l : ℕ) % 32 < 24
  · rw [if_pos h, if_pos h, if_pos h.1]; rfl
  · rw [if_neg h, if_neg h]
    show (((0#32 : BitVec 32).toInt : ℝ) : EReal) = 0
    simp

theorem qByte0_at (q : IVec S8x128 32) (r : Fin 32) (l : Fin 128) :
    qByte0 q (ix2 r l) = if (l : ℕ) / 32 = r % 4 ∧ (l : ℕ) % 32 < 24 then codeAt 0 (q (ix2 ⟨r / 4, by omega⟩ l)) else 0 := qByte_at 0 q r l
theorem qByte1_at (q : IVec S8x128 32) (r : Fin 32) (l : Fin 128) :
    qByte1 q (ix2 r l) = if (l : ℕ) / 32 = r % 4 ∧ (l : ℕ) % 32 < 24 then codeAt 1 (q (ix2 ⟨r / 4, by omega⟩ l)) else 0 := qByte_at 1 q r l
theorem qByte2_at (q : IVec S8x128 32) (r : Fin 32) (l : Fin 128) :
    qByte2 q (ix2 r l) = if (l : ℕ) / 32 = r % 4 ∧ (l : ℕ) % 32 < 24 then codeAt 2 (q (ix2 ⟨r / 4, by omega⟩ l)) else 0 := qByte_at 2 q r l
theorem qByte3_at (q : IVec S8x128 32) (r : Fin 32) (l : Fin 128) :
    qByte3 q (ix2 r l) = if (l : ℕ) / 32 = r % 4 ∧ (l : ℕ) % 32 < 24 then codeAt 3 (q (ix2 ⟨r / 4, by omega⟩ l)) else 0 := qByte_at 3 q r l

theorem ofBits_256 : Ideal.ofBits .f32 0x43800000#32 = ((256 : ℝ) : EReal) := by
  simp [Ideal.ofBits, Ideal.ieee, -EReal.coe_mul]; norm_num

theorem sel0_at (r : Fin 12) (l : Fin 128) : sel0 (ix2 r l) = if (r : ℕ) / 4 = 0 ∧ (l : ℕ) = 32 * (r % 4) + 24 then (1 : EReal) else 0 := by
  rw [sel0_eq]
  show Scalar.select (maskLo (ix2 r l)) (Ideal.ofBits .f32 0x3F800000#32) (Ideal.ofBits .f32 0x00000000#32) = _
  rw [maskLo_at, Ideal.ofBits_one_f32, Ideal.ofBits_zero_f32]
  split_ifs <;> rfl
theorem sel1_at (r : Fin 12) (l : Fin 128) : sel1 (ix2 r l) = if (r : ℕ) / 4 = 0 ∧ (l : ℕ) = 32 * (r % 4) + 24 then ((256 : ℝ) : EReal) else 0 := by
  rw [sel1_eq]
  show Scalar.select (maskLo (ix2 r l)) (Ideal.ofBits .f32 0x43800000#32) (Ideal.ofBits .f32 0x00000000#32) = _
  rw [maskLo_at, ofBits_256, Ideal.ofBits_zero_f32]
  split_ifs <;> rfl
theorem sel2_at (r : Fin 12) (l : Fin 128) : sel2 (ix2 r l) = if (r : ℕ) / 4 = 1 ∧ (l : ℕ) = 32 * (r % 4) + 24 then (1 : EReal) else 0 := by
  rw [sel2_eq]
  show Scalar.select (maskHi (ix2 r l)) (Ideal.ofBits .f32 0x3F800000#32) (Ideal.ofBits .f32 0x00000000#32) = _
  rw [maskHi_at, Ideal.ofBits_one_f32, Ideal.ofBits_zero_f32]
  split_ifs <;> rfl
theorem sel3_at (r : Fin 12) (l : Fin 128) : sel3 (ix2 r l) = if (r : ℕ) / 4 = 1 ∧ (l : ℕ) = 32 * (r % 4) + 24 then ((256 : ℝ) : EReal) else 0 := by
  rw [sel3_eq]
  show Scalar.select (maskHi (ix2 r l)) (Ideal.ofBits .f32 0x43800000#32) (Ideal.ofBits .f32 0x00000000#32) = _
  rw [maskHi_at, ofBits_256, Ideal.ofBits_zero_f32]
  split_ifs <;> rfl

/-- The sum over the lanes of a row with one word not 0 is that word. -/
theorem pick_at (v : IVec S32x128 32) (r : Fin 32) (a : Fin 1) (l : Fin 128) (h : ∀ l' : Fin 128, l' ≠ l → v (ix2 r l') = 0#32) :
    (shapeCast S32x1 (multiReductionI .add [1] S32 v 0#32 reduces_S32x128_S32 rfl) shapeCasts_S32_S32x1 : IVec S32x1 32) (ix2 r a) = v (ix2 r l) := by
  have hs : ∀ v : IVec S32 32, (shapeCast S32x1 v shapeCasts_S32_S32x1 : IVec S32x1 32) (ix2 r a) = v (ix1 r) := by
    intro v; pointwise
  refine (hs _).trans ((congrFun (multiReductionI_eq_reduceFold .add v 0#32 reduces_S32x128_S32 rfl) _).trans ?_)
  show reduceFold reduces_S32x128_S32 (· + ·) (0#32 : BitVec 32) v (ix1 r) = _
  rw [reduceFold_add_eq_sum, show (0#32 : BitVec 32) = 0 from rfl, zero_add]
  refine Finset.sum_eq_single_of_mem _ ?_ ?_
  · refine Finset.mem_filter.2 ⟨Finset.mem_univ _, ?_⟩
    funext d
    match d with
    | 0 => rfl
  · intro b hb hne
    idx_vars b
    have hd : (reduces_S32x128_S32.drop (ix2 b0 b1) : S32.Idx) = ix1 r := (Finset.mem_filter.1 hb).2
    have h0 : b0 = r := congrFun hd 0
    subst h0
    exact h b1 fun e => hne (by rw [e])

theorem cmpi_ofNat (a b : ℕ) (ha : a < 32) (hb : b < 32) : IntOp.cmpi .eq (BitVec.ofNat 32 a) (BitVec.ofNat 32 b) = if a = b then 1#1 else 0#1 := by
  interval_cases a <;> interval_cases b <;> rfl

theorem own_word (j : ℕ) (hj : j < 32) (q : IVec S8x128 32) (r : Fin 32) (l : Fin 128) :
    Scalar.select (IntOp.cmpi .eq (k1_pay3 lane 32#32 0#1 (ix2 r l)) (BitVec.ofNat 32 j)) (ownQ q (ix2 r l)) 0#32
      = if (l : ℕ) = 32 * (r % 4) + j then q (ix2 ⟨r / 4, by omega⟩ l) else 0#32 := by
  rw [word_at, ownQ_at, cmpi_ofNat _ _ (Nat.mod_lt _ (by decide)) hj]
  have hl := l.2
  by_cases h : (l : ℕ) = 32 * (r % 4) + j
  · rw [if_pos h, if_pos (show (l : ℕ) % 32 = j by omega), if_pos (show (l : ℕ) / 32 = r % 4 by omega)]; rfl
  · rw [if_neg h]
    by_cases h1 : (l : ℕ) % 32 = j
    · rw [if_pos h1, if_neg (show ¬ (l : ℕ) / 32 = r % 4 by omega)]; rfl
    · rw [if_neg h1]; rfl

/-- A target's match count. -/
theorem count_at (q : IVec S8x128 32) (r : Fin 32) (a : Fin 1) :
    count q (ix2 r a) = q (ix2 ⟨r / 4, by omega⟩ ⟨32 * (r % 4) + 25, by omega⟩) := by
  refine (pick_at (select (cmpi .eq (k1_pay3 lane 32#32 0#1) (broadcast S32x128 25#32)) (ownQ q) (broadcast S32x128 0#32)) r a ⟨32 * (r % 4) + 25, by omega⟩ ?_).trans ?_
  · intro l hl
    exact (own_word 25 (by decide) q r l).trans (if_neg fun e => hl (Fin.ext e))
  · exact (own_word 25 (by decide) q r _).trans (if_pos rfl)

/-- A target's scale times the constant. -/
theorem qScale_at (q : IVec S8x128 32) (r : Fin 32) (a : Fin 1) :
    qScale q (ix2 r a) = Ideal.ofBits .f32 (IntOp.xori (q (ix2 ⟨r / 4, by omega⟩ ⟨32 * (r % 4) + 24, by omega⟩)) 2155905152#32) * Ideal.ofBits .f32 0x3DD105EC#32 := by
  refine congrArg (fun w => Ideal.ofBits .f32 (IntOp.xori w 2155905152#32) * Ideal.ofBits .f32 0x3DD105EC#32) ?_
  refine (pick_at (select (cmpi .eq (k1_pay3 lane 32#32 0#1) (broadcast S32x128 24#32)) (ownQ q) (broadcast S32x128 0#32)) r a ⟨32 * (r % 4) + 24, by omega⟩ ?_).trans ?_
  · intro l hl
    exact (own_word 24 (by decide) q r l).trans (if_neg fun e => hl (Fin.ext e))
  · exact (own_word 24 (by decide) q r _).trans (if_pos rfl)

end Cert.KernelIdeal.Blk
-- ==== Proof.SpecSums.lean ====
module

public import proofs.«01_k».proof.Proof.Spec

@[expose] public section

set_option maxRecDepth 16384

noncomputable section
namespace Cert.Spec
open Idealize.ShloMosaic

/-! The sums over the lanes that hold a target's own words. -/

/-- A sum over four bytes and 128 lanes that keeps a target's 24 code words is the sum over its 96 codes. -/
theorem sum_own (t : Fin 4) (g : ℕ → Fin 128 → EReal) :
    ∑ i : Fin 4, ∑ l : Fin 128, (if (l : ℕ) / 32 = t ∧ (l : ℕ) % 32 < 24 then g i l else 0)
      = ∑ d : Fin 96, g (d % 4) (atCode t d) := by
  rw [← Fintype.sum_prod_type (f := fun p : Fin 4 × Fin 128 => if (p.2 : ℕ) / 32 = t ∧ (p.2 : ℕ) % 32 < 24 then g p.1 p.2 else 0)]
  symm
  refine Finset.sum_of_injOn (fun d : Fin 96 => ((⟨d % 4, Nat.mod_lt _ (by decide)⟩ : Fin 4), atCode t d)) ?_ ?_ ?_ ?_
  · intro d _ d' _ e
    have e1 : (d : ℕ) % 4 = d' % 4 := congrArg (fun p : Fin 4 × Fin 128 => (p.1 : ℕ)) e
    have e2 : 32 * (t : ℕ) + d / 4 = 32 * t + d' / 4 := congrArg (fun p : Fin 4 × Fin 128 => (p.2 : ℕ)) e
    exact Fin.ext (by omega)
  · intro d _; exact Finset.mem_coe.2 (Finset.mem_univ _)
  · intro p _ hp
    refine if_neg fun h => hp ?_
    have hp1 := p.1.2
    have hp2 := p.2.2
    refine ⟨⟨4 * ((p.2 : ℕ) % 32) + p.1, by omega⟩, Finset.mem_coe.2 (Finset.mem_univ _), ?_⟩
    refine Prod.ext (Fin.ext ?_) (Fin.ext ?_)
    · show (4 * ((p.2 : ℕ) % 32) + p.1) % 4 = p.1; omega
    · show 32 * (t : ℕ) + (4 * ((p.2 : ℕ) % 32) + p.1) / 4 = p.2; omega
  · intro d _
    have hd := d.2
    refine (if_pos ⟨?_, ?_⟩).symm
    · show (32 * (t : ℕ) + d / 4) / 32 = t; omega
    · show (32 * (t : ℕ) + d / 4) % 32 < 24; omega

/-- A sum over the lanes that keeps one lane. -/
theorem sum_lane (P : Fin 128 → Prop) [DecidablePred P] (c : EReal) (f : Fin 128 → EReal) (a : Fin 128) (ha : P a) (h : ∀ l, P l → l = a) :
    ∑ l : Fin 128, (if P l then c else 0) * f l = c * f a := by
  rw [Finset.sum_eq_single_of_mem a (Finset.mem_univ _), if_pos ha]
  intro l _ hl
  rw [if_neg fun hp => hl (h l hp), zero_mul]

theorem sum_no_lane (P : Fin 128 → Prop) [DecidablePred P] (c : EReal) (f : Fin 128 → EReal) (h : ∀ l, ¬ P l) :
    ∑ l : Fin 128, (if P l then c else 0) * f l = 0 := by
  refine Finset.sum_eq_zero fun l _ => ?_
  rw [if_neg (h l), zero_mul]

/-- A sum over 512 lanes, byte by byte. -/
theorem sum_bytes (f : Fin 512 → EReal) : ∑ x : Fin 512, f x = ∑ i : Fin 4, ∑ l : Fin 128, f ⟨i * 128 + l, by omega⟩ :=
  Fin.sum_univ_tiles 4 128 rfl f

end Cert.Spec
-- ==== Proof.SpecWord.lean ====
module

public import proofs.«01_k».proof.Proof.Spec

@[expose] public section

set_option maxRecDepth 16384

noncomputable section
namespace Cert.Spec
open Idealize.ShloMosaic

/-! A word put together again from its four signed bytes. -/

theorem byte_word (i : ℕ) (hi : i < 4) (w : BitVec 32) :
    IntOp.shrsi .vector (IntOp.shli .vector w (BitVec.ofNat 32 (24 - 8 * i))) 24#32 = (w.extractLsb' (8 * i) 8).signExtend 32 := by
  interval_cases i
  all_goals
    simp only [IntOp.shrsi, IntOp.shli, BitVec.sshiftRight', BitVec.shiftLeft_eq', BitVec.toNat_ofNat]
    norm_num
    ext j hj
    simp only [BitVec.getElem_sshiftRight, BitVec.getElem_signExtend, BitVec.getElem_extractLsb', BitVec.msb_eq_getLsbD_last, BitVec.getLsbD_shiftLeft, BitVec.getLsbD_extractLsb', BitVec.getElem_shiftLeft]
    norm_num
    by_cases h : j < 8
    · have e : ¬ 24 + j < 16 := by omega
      have e' : ¬ 24 + j < 8 := by omega
      have e1 : 24 + j - 16 = 8 + j := by omega
      have e2 : 24 + j - 8 = 16 + j := by omega
      have e3 : 24 + j < 32 := by omega
      simp [h, BitVec.getLsbD, BitVec.getElem_eq_testBit_toNat, e, e', e1, e2, e3]
    · have e3 : ¬ 24 + j < 32 := by omega
      simp [h, BitVec.getLsbD, e3]

/-- A code is its byte's signed value. -/
theorem codeAt_eq (i : ℕ) (hi : i < 4) (w : BitVec 32) : codeAt i w = (((w.extractLsb' (8 * i) 8).toInt : ℝ) : EReal) := by
  unfold codeAt
  rw [byte_word i hi w]
  show (((BitVec.signExtend 32 (w.extractLsb' (8 * i) 8)).toInt : ℝ) : EReal) = _
  rw [BitVec.toInt_signExtend_of_le (by decide)]

theorem byte_xor : ∀ b : BitVec 8, ((b ^^^ 128#8).toNat : ℤ) = b.toInt + 128 := by decide
theorem byte_le : ∀ b : BitVec 8, -128 ≤ b.toInt ∧ b.toInt ≤ 127 := by decide

theorem word_bytes (w : BitVec 32) :
    w = w.extractLsb' 24 8 ++ (w.extractLsb' 16 8 ++ (w.extractLsb' 8 8 ++ w.extractLsb' 0 8 : BitVec 16) : BitVec 24) := by
  ext j hj
  rw [BitVec.getElem_append]
  split
  · rw [BitVec.getElem_append]
    split
    · rw [BitVec.getElem_append]
      split <;> rw [BitVec.getElem_extractLsb', ← BitVec.getLsbD_eq_getElem hj] <;> congr 1 <;> omega
    · rw [BitVec.getElem_extractLsb', ← BitVec.getLsbD_eq_getElem hj]; congr 1; omega
  · rw [BitVec.getElem_extractLsb', ← BitVec.getLsbD_eq_getElem hj]; congr 1; omega

theorem toNat_app {v : ℕ} (x : BitVec 8) (y : BitVec v) : (x ++ y).toNat = x.toNat * 2 ^ v + y.toNat := by
  rw [BitVec.toNat_append, Nat.shiftLeft_eq, Nat.mul_comm, Nat.two_pow_add_eq_or_of_lt y.isLt]

theorem xor_toNat (b3 b2 b1 b0 : BitVec 8) :
    (((b3 ++ (b2 ++ (b1 ++ b0 : BitVec 16) : BitVec 24) : BitVec 32) ^^^ 2155905152#32).toNat : ℤ)
      = (b3.toInt + 128) * 16777216 + (b2.toInt + 128) * 65536 + (b1.toInt + 128) * 256 + (b0.toInt + 128) := by
  have hc : (2155905152#32 : BitVec 32) = (128#8 ++ (128#8 ++ (128#8 ++ 128#8 : BitVec 16) : BitVec 24) : BitVec 32) := by decide
  rw [hc, BitVec.xor_append, BitVec.xor_append, BitVec.xor_append, toNat_app, toNat_app, toNat_app]
  push_cast
  rw [byte_xor, byte_xor, byte_xor, byte_xor]
  ring

/-- Two halves of signed bytes, put together and shifted, are the word with every byte's top bit turned over. -/
theorem halves_word (b3 b2 b1 b0 : BitVec 8) :
    BitVec.ofInt 32 (b0.toInt + 256 * b1.toInt) + (BitVec.ofInt 32 (b2.toInt + 256 * b3.toInt)) <<< 16 + 2155905152#32
      = (b3 ++ (b2 ++ (b1 ++ b0 : BitVec 16) : BitVec 24) : BitVec 32) ^^^ 2155905152#32 := by
  apply BitVec.eq_of_toNat_eq
  zify
  rw [xor_toNat]
  rw [BitVec.toNat_add, BitVec.toNat_add, BitVec.toNat_shiftLeft, Nat.shiftLeft_eq]
  have h0 := byte_le b0
  have h1 := byte_le b1
  have h2 := byte_le b2
  have h3 := byte_le b3
  simp only [BitVec.toNat_ofInt, BitVec.toNat_ofNat]
  push_cast
  rw [Int.toNat_of_nonneg (by omega), Int.toNat_of_nonneg (by omega)]
  omega

theorem fptosi_int (n : ℤ) (h : -2147483648 ≤ n) (h' : n ≤ 2147483647) : FloatOps.fptosi (F := Ideal) (φ := .f32) 32 ((n : ℝ) : EReal) = BitVec.ofInt 32 n := by
  show BitVec.ofInt 32 (Ideal.toIntClamped (-(2 ^ (32 - 1) : Nat)) ((2 ^ (32 - 1) : Nat) - 1) ((n : ℝ) : EReal)) = _
  rw [Ideal.toIntClamped_coe]
  congr 1
  rw [Int.floor_intCast, Int.ceil_intCast]
  norm_num
  omega

/-- The scale's bits from the two half sums. -/
theorem scale_bits (w : BitVec 32) (lo hi : EReal) (hlo : lo = 1 * codeAt 0 w + ((256 : ℝ) : EReal) * codeAt 1 w)
    (hhi : hi = 1 * codeAt 2 w + ((256 : ℝ) : EReal) * codeAt 3 w) :
    IntOp.addi (IntOp.addi (FloatOps.fptosi (F := Ideal) (φ := .f32) 32 lo) (IntOp.shli .vector (FloatOps.fptosi (F := Ideal) (φ := .f32) 32 hi) 16#32)) 2155905152#32
      = IntOp.xori w 2155905152#32 := by
  rw [codeAt_eq 0 (by decide), codeAt_eq 1 (by decide)] at hlo
  rw [codeAt_eq 2 (by decide), codeAt_eq 3 (by decide)] at hhi
  have elo : lo = (((((w.extractLsb' 0 8).toInt + 256 * (w.extractLsb' 8 8).toInt : ℤ)) : ℝ) : EReal) := by
    rw [hlo, one_mul, ← EReal.coe_mul, ← EReal.coe_add]; push_cast; rfl
  have ehi : hi = (((((w.extractLsb' 16 8).toInt + 256 * (w.extractLsb' 24 8).toInt : ℤ)) : ℝ) : EReal) := by
    rw [hhi, one_mul, ← EReal.coe_mul, ← EReal.coe_add]; push_cast; rfl
  have h0 := byte_le (w.extractLsb' 0 8)
  have h1 := byte_le (w.extractLsb' 8 8)
  have h2 := byte_le (w.extractLsb' 16 8)
  have h3 := byte_le (w.extractLsb' 24 8)
  rw [elo, ehi, fptosi_int _ (by omega) (by omega), fptosi_int _ (by omega) (by omega)]
  have e := halves_word (w.extractLsb' 24 8) (w.extractLsb' 16 8) (w.extractLsb' 8 8) (w.extractLsb' 0 8)
  rw [← word_bytes] at e
  exact e

end Cert.Spec
-- ==== Proof.BlkScores.lean ====
module

public import proofs.«01_k».proof.Proof.BlkRows
public import proofs.«01_k».proof.Proof.SpecSums
public import proofs.«01_k».proof.Proof.SpecWord

@[expose] public section

set_option maxRecDepth 16384

noncomputable section
namespace Cert.KernelIdeal.Blk
open Cert.KernelIdeal Cert.KernelIdeal.Gen
open Cert.Spec (codeAt)
open Idealize.ShloMosaic Idealize.ShloMosaic.TcCoe Idealize.SL.Sem Idealize.ShloMosaic.Tactic

/-! One user's score product at an index: the raw scores, and the two halves of the key scales. -/

/-- The left operand's lane `l` of byte `i` in row `r`. -/
def lhsAt (u : ℕ) (hu : u < 8) (q : IVec S8x128 32) (r : Fin 16) (i : ℕ) (l : Fin 128) : EReal :=
  if (r : ℕ) < 4 then (if (l : ℕ) / 32 = r ∧ (l : ℕ) % 32 < 24 then codeAt i (q (ix2 ⟨u, hu⟩ l)) else 0)
  else (if ((r : ℕ) - 4) / 4 = i / 2 ∧ (l : ℕ) = 32 * (r % 4) + 24 then (if i % 2 = 0 then 1 else ((256 : ℝ) : EReal)) else 0)

theorem lhsPart_at (u : ℕ) (hu : u < 8) (q : IVec S8x128 32) (i : ℕ) (qb : FVec Ideal S32x128 .f32) (sel : FVec Ideal S12x128 .f32)
    (hq : ∀ (r : Fin 32) (l : Fin 128), qb (ix2 r l) = if (l : ℕ) / 32 = r % 4 ∧ (l : ℕ) % 32 < 24 then codeAt i (q (ix2 ⟨r / 4, by omega⟩ l)) else 0)
    (hs : ∀ (r : Fin 12) (l : Fin 128), sel (ix2 r l) = if (r : ℕ) / 4 = i / 2 ∧ (l : ℕ) = 32 * (r % 4) + 24 then (if i % 2 = 0 then 1 else ((256 : ℝ) : EReal)) else 0)
    (r : Fin 16) (l : Fin 128) : lhsPart u hu qb sel (ix2 r l) = lhsAt u hu q r i l := by
  have e : lhsPart u hu qb sel (ix2 r l) = if h : (r : ℕ) < 4 then qb (ix2 ⟨4 * u + r, by omega⟩ l) else sel (ix2 ⟨(r : ℕ) - 4, by omega⟩ l) := by
    pointwise [lhsPart]
  rw [e]
  unfold lhsAt
  by_cases h : (r : ℕ) < 4
  · rw [dif_pos h, if_pos h, hq]
    have e1 : (4 * u + (r : ℕ)) % 4 = r := by omega
    have e2 : (4 * u + (r : ℕ)) / 4 = u := by omega
    simp only [e1, e2]
  · rw [dif_neg h, if_neg h, hs]
    have e1 : ((r : ℕ) - 4) % 4 = r % 4 := by omega
    simp only [e1]

theorem scoreMat_at (u : ℕ) (hu : u < 8) (q : IVec S8x128 32) (codes : FVec Ideal S1x256x512 .bf16) (x : Fin 256 → Fin 128 → BitVec 32)
    (hc : ∀ (k : Fin 256) (l : Fin 512), codes (ix3 0 k l) = codeAt (l / 128) (x k ⟨l % 128, Nat.mod_lt _ (by decide)⟩))
    (r : Fin 16) (k : Fin 256) :
    scoreMat u hu q codes (ix2 r k) = ∑ i : Fin 4, ∑ l : Fin 128, lhsAt u hu q r i l * codeAt i (x k l) := by
  have p0 := lhsPart_at u hu q 0 (qByte0 q) sel0 (qByte0_at q) sel0_at
  have p1 := lhsPart_at u hu q 1 (qByte1 q) sel1 (qByte1_at q) sel1_at
  have p2 := lhsPart_at u hu q 2 (qByte2 q) sel2 (qByte2_at q) sel2_at
  have p3 := lhsPart_at u hu q 3 (qByte3 q) sel3 (qByte3_at q) sel3_at
  have e : scoreMat u hu q codes (ix2 r k) = ∑ l : Fin 512, lhs u hu q (ix2 r l) * codes (ix3 0 k l) := by
    unfold scoreMat
    generalize lhs u hu q = L
    pointwise
  have f : ∀ (i : Fin 4) (l : Fin 128), lhs u hu q (ix2 r ⟨i * 128 + l, by omega⟩) = lhsAt u hu q r i l := by
    intro i l
    have hl := l.2
    unfold lhs
    generalize lhsPart u hu (qByte0 q) sel0 = L0 at *
    generalize lhsPart u hu (qByte1 q) sel1 = L1 at *
    generalize lhsPart u hu (qByte2 q) sel2 = L2 at *
    generalize lhsPart u hu (qByte3 q) sel3 = L3 at *
    pointwise
    fin_cases i
    all_goals dsimp only
    · have a0 : 0 * 128 + (l : ℕ) < 128 := by omega
      simp [p0]
    · have b1 : 128 + (l : ℕ) - 128 = l := by omega
      simp [b1, p1]
    · have a1 : ¬ 256 + (l : ℕ) < 128 := by omega
      have b1 : 256 + (l : ℕ) - 128 - 128 = l := by omega
      have a2 : ¬ 256 + (l : ℕ) - 128 < 128 := by omega
      simp [a1, a2, b1, p2]
    · have a1 : ¬ 384 + (l : ℕ) < 128 := by omega
      have a2 : ¬ 384 + (l : ℕ) - 128 < 128 := by omega
      have a3 : ¬ 384 + (l : ℕ) - 128 - 128 < 128 := by omega
      have b1 : 384 + (l : ℕ) - 128 - 128 - 128 = l := by omega
      simp [a1, a2, a3, b1, p3]
  rw [e, Spec.sum_bytes]
  refine Finset.sum_congr rfl fun i _ => Finset.sum_congr rfl fun l _ => ?_
  rw [f, hc]
  refine congrArg (fun z => lhsAt u hu q r i l * z) ?_
  have hl := l.2
  have e1 : ((i : ℕ) * 128 + l) / 128 = i := by omega
  have e2 : ((i : ℕ) * 128 + l) % 128 = l := by omega
  simp only [e1, e2]

/-- The raw scores. -/
theorem scoreMat_raw (u : ℕ) (hu : u < 8) (q : IVec S8x128 32) (codes : FVec Ideal S1x256x512 .bf16) (x : Fin 256 → Fin 128 → BitVec 32)
    (hc : ∀ (k : Fin 256) (l : Fin 512), codes (ix3 0 k l) = codeAt (l / 128) (x k ⟨l % 128, Nat.mod_lt _ (by decide)⟩))
    (r : Fin 16) (t : Fin 4) (hr : (r : ℕ) = t) (k : Fin 256) :
    scoreMat u hu q codes (ix2 r k) = Spec.raw (fun l => q (ix2 ⟨u, hu⟩ l)) x t k := by
  rw [scoreMat_at u hu q codes x hc]
  have h4 : (r : ℕ) < 4 := by omega
  refine Eq.trans ?_ (Spec.sum_own t fun i l => codeAt i (q (ix2 ⟨u, hu⟩ l)) * codeAt i (x k l))
  refine Finset.sum_congr rfl fun i _ => Finset.sum_congr rfl fun l _ => ?_
  unfold lhsAt
  rw [if_pos h4, hr]
  split_ifs
  · rfl
  · exact zero_mul _

/-- The low half of the scales. -/
theorem scoreMat_lo (u : ℕ) (hu : u < 8) (q : IVec S8x128 32) (codes : FVec Ideal S1x256x512 .bf16) (x : Fin 256 → Fin 128 → BitVec 32)
    (hc : ∀ (k : Fin 256) (l : Fin 512), codes (ix3 0 k l) = codeAt (l / 128) (x k ⟨l % 128, Nat.mod_lt _ (by decide)⟩))
    (r : Fin 16) (t : Fin 4) (hr : (r : ℕ) = 4 + t) (k : Fin 256) :
    scoreMat u hu q codes (ix2 r k) = 1 * codeAt 0 (x k (Spec.at32 t 24 (by decide))) + ((256 : ℝ) : EReal) * codeAt 1 (x k (Spec.at32 t 24 (by decide))) := by
  rw [scoreMat_at u hu q codes x hc, Fin.sum_univ_four]
  have h4 : ¬ (r : ℕ) < 4 := by omega
  have ht := t.2
  unfold lhsAt
  simp only [if_neg h4]
  rw [Spec.sum_lane _ _ (fun l => codeAt _ (x k l)) (Spec.at32 t 24 (by decide)) (by unfold Spec.at32; constructor <;> simp <;> omega) (by intro l hl; exact Fin.ext (by unfold Spec.at32; simp; omega)),
    Spec.sum_lane _ _ (fun l => codeAt _ (x k l)) (Spec.at32 t 24 (by decide)) (by unfold Spec.at32; constructor <;> simp <;> omega) (by intro l hl; exact Fin.ext (by unfold Spec.at32; simp; omega)),
    Spec.sum_no_lane _ _ (fun l => codeAt _ (x k l)) (by intro l hl; have := hl.1; simp at this; omega),
    Spec.sum_no_lane _ _ (fun l => codeAt _ (x k l)) (by intro l hl; have := hl.1; simp at this; omega), add_zero, add_zero]
  simp

/-- The high half of the scales. -/
theorem scoreMat_hi (u : ℕ) (hu : u < 8) (q : IVec S8x128 32) (codes : FVec Ideal S1x256x512 .bf16) (x : Fin 256 → Fin 128 → BitVec 32)
    (hc : ∀ (k : Fin 256) (l : Fin 512), codes (ix3 0 k l) = codeAt (l / 128) (x k ⟨l % 128, Nat.mod_lt _ (by decide)⟩))
    (r : Fin 16) (t : Fin 4) (hr : (r : ℕ) = 8 + t) (k : Fin 256) :
    scoreMat u hu q codes (ix2 r k) = 1 * codeAt 2 (x k (Spec.at32 t 24 (by decide))) + ((256 : ℝ) : EReal) * codeAt 3 (x k (Spec.at32 t 24 (by decide))) := by
  rw [scoreMat_at u hu q codes x hc, Fin.sum_univ_four]
  have h4 : ¬ (r : ℕ) < 4 := by omega
  have ht := t.2
  unfold lhsAt
  simp only [if_neg h4]
  rw [Spec.sum_no_lane _ _ (fun l => codeAt _ (x k l)) (by intro l hl; have := hl.1; simp at this; omega),
    Spec.sum_no_lane _ _ (fun l => codeAt _ (x k l)) (by intro l hl; have := hl.1; simp at this; omega),
    Spec.sum_lane _ _ (fun l => codeAt _ (x k l)) (Spec.at32 t 24 (by decide)) (by unfold Spec.at32; constructor <;> simp <;> omega) (by intro l hl; exact Fin.ext (by unfold Spec.at32; simp; omega)),
    Spec.sum_lane _ _ (fun l => codeAt _ (x k l)) (Spec.at32 t 24 (by decide)) (by unfold Spec.at32; constructor <;> simp <;> omega) (by intro l hl; exact Fin.ext (by unfold Spec.at32; simp; omega)),
    zero_add, zero_add]
  simp

end Cert.KernelIdeal.Blk
-- ==== Proof.BlkWeights.lean ====
module

public import proofs.«01_k».proof.Proof.BlkScores

@[expose] public section

set_option maxRecDepth 16384

noncomputable section
namespace Cert.KernelIdeal.Blk
open Cert.KernelIdeal Cert.KernelIdeal.Gen
open Cert.Spec (codeAt)
open Idealize.ShloMosaic Idealize.ShloMosaic.TcCoe Idealize.SL.Sem Idealize.ShloMosaic.Tactic

/-! The weights and the scaled weights of one grid point at an index. -/

theorem lt24 : 24 < 32 := by decide
theorem select_select {α : Type} (c : BitVec 1) (a b d : α) : Scalar.select c (Scalar.select c a b) d = Scalar.select c a d := by
  unfold Scalar.select; split_ifs <;> rfl

section
variable (cnt : IVec S32x1 32) (qs : FVec Ideal S32x1 .f32) (s0 s1 s2 : FVec Ideal S1x32x256 .f32) (r : Fin 32)
  (q : Fin 128 → BitVec 32) (x : Fin 256 → Fin 128 → BitVec 32) (t : Fin 4)
  (hcnt : cnt (ix2 r 0) = Spec.count q t)
  (hqs : qs (ix2 r 0) = Spec.scaleAt (q (Spec.at32 t 24 lt24)) * Ideal.ofBits .f32 0x3DD105EC#32)
  (h0 : ∀ k, s0 (ix3 0 r k) = Spec.raw q x t k)
  (h1 : ∀ k, s1 (ix3 0 r k) = 1 * codeAt 0 (x k (Spec.at32 t 24 lt24)) + ((256 : ℝ) : EReal) * codeAt 1 (x k (Spec.at32 t 24 lt24)))
  (h2 : ∀ k, s2 (ix3 0 r k) = 1 * codeAt 2 (x k (Spec.at32 t 24 lt24)) + ((256 : ℝ) : EReal) * codeAt 3 (x k (Spec.at32 t 24 lt24)))
include hcnt hqs h0 h1 h2

theorem weight_at (k : Fin 256) :
    k1_pay107 cnt qs (k1_pay101 s0) (k1_pay102 (F := Ideal) s1) (k1_pay103 (F := Ideal) s2) k1_pay104 (ix2 r k) = Spec.weight q x t k := by
  have hb : ∀ k, IntOp.addi (IntOp.addi (FloatOps.fptosi (F := Ideal) (φ := .f32) 32 (s1 (ix3 0 r k))) (IntOp.shli .vector (FloatOps.fptosi (F := Ideal) (φ := .f32) 32 (s2 (ix3 0 r k))) 16#32)) 2155905152#32
      = IntOp.xori (x k (Spec.at32 t 24 lt24)) 2155905152#32 := fun k => Spec.scale_bits _ _ _ (h1 k) (h2 k)
  unfold k1_pay107 k1_pay106 k1_pay101 k1_pay102 k1_pay103 k1_pay104 k1_pay105
  pointwise
  simp only [hb, h0, hcnt, hqs, select_select]
  unfold Spec.weight Spec.none
  by_cases he : IntOp.cmpi .eq (Spec.count q t) 0#32 = 1
  · simp only [Scalar.select, he, if_true]
  · simp only [Scalar.select, he, if_false]
    rfl

theorem scaled_at (k : Fin 256) :
    k1_pay109 cnt qs (k1_pay101 s0) (k1_pay102 (F := Ideal) s1) (k1_pay103 (F := Ideal) s2) k1_pay104 (ix2 r k) = Spec.scaled q x t k := by
  have hb : ∀ k, IntOp.addi (IntOp.addi (FloatOps.fptosi (F := Ideal) (φ := .f32) 32 (s1 (ix3 0 r k))) (IntOp.shli .vector (FloatOps.fptosi (F := Ideal) (φ := .f32) 32 (s2 (ix3 0 r k))) 16#32)) 2155905152#32
      = IntOp.xori (x k (Spec.at32 t 24 lt24)) 2155905152#32 := fun k => Spec.scale_bits _ _ _ (h1 k) (h2 k)
  have hw := weight_at cnt qs s0 s1 s2 r q x t hcnt hqs h0 h1 h2 k
  unfold k1_pay109
  generalize k1_pay107 cnt qs (k1_pay101 s0) (k1_pay102 (F := Ideal) s1) (k1_pay103 (F := Ideal) s2) k1_pay104 = W at *
  unfold k1_pay106 k1_pay102 k1_pay103 k1_pay104 k1_pay105
  pointwise
  simp only [hb, hcnt, hw]
  rfl

end
end Cert.KernelIdeal.Blk
-- ==== Proof.BlkLoads.lean ====
module

public import proofs.«01_k».proof.Proof.BlkWeights

@[expose] public section

set_option maxRecDepth 16384

noncomputable section
namespace Cert.KernelIdeal.Blk
open Cert.KernelIdeal Cert.KernelIdeal.Gen
open Cert.Spec (codeAt)
open Idealize.ShloMosaic Idealize.ShloMosaic.TcCoe Idealize.SL.Sem Idealize.ShloMosaic.Tactic

/-! The score and pooling products loaded back, and the two blocks a grid point stores, at an index. -/

section
variable (arg1 : Memref sig .tc .vmem S2048x128 .i32) (harg1 : arg1.IsWhole) (arg2 : Memref sig .tc .vmem S8x128 .i32) (harg2 : arg2.IsWhole)
    (arg7 : Memref sig .tc .vmem S8x256x512 .bf16) (arg8 : Memref sig .tc .vmem S3x32x256 .f32) (arg9 : Memref sig .tc .vmem S4x32x128 .f32)
    (x0 : IVec S2048x128 32) (x1 : IVec S8x128 32)

/-- The words of user `u`'s target row. -/
def qRow (u : Fin 8) : Fin 128 → BitVec 32 := fun l => x1 (ix2 u l)
/-- The words of user `u`'s gathered rows. -/
def xRow (u : Fin 8) : Fin 256 → Fin 128 → BitVec 32 := fun k l => x0 (ix2 ⟨256 * u + k, by omega⟩ l)
/-- User `u`'s codes. -/
def codesOf (u : Fin 8) : FVec Ideal S1x256x512 .bf16 := fun z => codeAt ((z 2 : ℕ) / 128) (xRow x0 u (z 1) ⟨(z 2 : ℕ) % 128, Nat.mod_lt _ (by decide)⟩)

theorem codesAt_eq (n : ℕ) (hn : n ≤ 8) (u : ℕ) (hu : u < 8) (hun : u < n) :
    codesAt arg1 harg1 arg7 x0 n hn u hu = codesOf x0 ⟨u, hu⟩ := by
  funext z
  idx_vars z
  exact codesAt_at arg1 harg1 arg7 x0 n hn u hu hun z0 z1 z2

theorem codesOf_at (u : Fin 8) (k : Fin 256) (l : Fin 512) :
    codesOf x0 u (ix3 0 k l) = codeAt (l / 128) (xRow x0 u k ⟨l % 128, Nat.mod_lt _ (by decide)⟩) := rfl

/-- User `u`'s score product. -/
def scoreU (u : Fin 8) : FVec Ideal S16x256 .f32 := scoreMat u u.2 x1 (codesOf x0 u)
/-- The score scratch as one array: part, row, position. -/
def scoresG : S3x32x256.Idx → EReal := fun y =>
  scoreU x0 x1 ⟨(y 1 : ℕ) / 4, by have h : (y 1 : ℕ) < 32 := (y 1).2; omega⟩
    (ix2 ⟨4 * (y 0 : ℕ) + (y 1 : ℕ) % 4, by have h : (y 0 : ℕ) < 3 := (y 0).2; omega⟩ (y 2))

theorem scoreU_congr {u v : Fin 8} {y z : S16x256.Idx} (h : u = v) (h' : y = z) : scoreU x0 x1 u y = scoreU x0 x1 v z := by rw [h, h']

theorem score_piece (p : ℕ) (hp : p < 3) (u : ℕ) (hu : u < 8) (n : ℕ) (hn : n ≤ 8) (hun : u < n) (y : S1x4x256.Idx) :
    scoreTile p hp u hu (targets arg2 harg2 x1) (codesAt arg1 harg1 arg7 x0 n hn u hu) y
      = scoresG x0 x1 ((Rect.unit (s := S3x32x256) ![p, 4 * u, 0] S1x4x256.size (inb_s p u hp hu)).emb y) := by
  idx_vars y
  rw [targets_eq, codesAt_eq arg1 harg1 arg7 x0 n hn u hu hun]
  have e : scoreTile p hp u hu x1 (codesOf x0 ⟨u, hu⟩) (ix3 y0 y1 y2) = scoreU x0 x1 ⟨u, hu⟩ (ix2 ⟨4 * p + y1, by omega⟩ y2) := by
    show scoreTile p hp u hu x1 (codesOf x0 ⟨u, hu⟩) (ix3 y0 y1 y2) = scoreMat u hu x1 (codesOf x0 ⟨u, hu⟩) (ix2 ⟨4 * p + y1, by omega⟩ y2)
    unfold scoreTile
    generalize scoreMat u hu x1 (codesOf x0 ⟨u, hu⟩) = S
    pointwise
  refine (e.trans ?_).trans (congrArg (scoresG x0 x1) (unit_emb3 (inb_s p u hp hu) y0 y1 y2)).symm
  have h0 : (y0 : ℕ) < 1 := y0.2
  have h1 : (y1 : ℕ) < 4 := y1.2
  refine scoreU_congr x0 x1 (Fin.ext ?_) ?_
  · show u = (4 * u + (y1 : ℕ)) / 4; omega
  · funext d
    refine Fin.ext ?_
    match d with
    | 0 => show 4 * p + (y1 : ℕ) = 4 * (p + (y0 : ℕ)) + (4 * u + (y1 : ℕ)) % 4; omega
    | 1 => show (y2 : ℕ) = 0 + (y2 : ℕ); omega

theorem scores_of (n : ℕ) (hn : n ≤ 8) : View.PiecesOf (scoresG x0 x1) (scoresTo arg1 harg1 arg2 harg2 arg7 x0 x1 n hn) := by
  induction n with
  | zero => exact trivial
  | succ n ih =>
    refine piecesOf_append _ _ _ ?_ (ih _)
    exact ⟨score_piece arg1 harg1 arg2 harg2 arg7 x0 x1 2 (by decide) n hn _ hn (Nat.lt_succ_self n),
      score_piece arg1 harg1 arg2 harg2 arg7 x0 x1 1 (by decide) n hn _ hn (Nat.lt_succ_self n),
      score_piece arg1 harg1 arg2 harg2 arg7 x0 x1 0 (by decide) n hn _ hn (Nat.lt_succ_self n), trivial⟩

theorem scores_cover (n : ℕ) (hn : n ≤ 8) (y : S3x32x256.Idx) (hy : (y 1 : ℕ) < 4 * n) :
    ∃ p ∈ scoresTo arg1 harg1 arg2 harg2 arg7 x0 x1 n hn, y ∈ p.1.set := by
  induction n with
  | zero => omega
  | succ n ih =>
    by_cases h : 4 * n ≤ (y 1 : ℕ)
    · have h0 : (y 0 : ℕ) < 3 := (y 0).2
      have h2 : (y 2 : ℕ) < 256 := (y 2).2
      have key : ∀ p (hp : p < 3), (y 0 : ℕ) = p →
          y ∈ (Rect.unit (s := S3x32x256) ![p, 4 * n, 0] S1x4x256.size (inb_s p n hp hn)).set := by
        intro p hp e
        rw [Rect.mem_set_unit]
        intro a
        match a with
        | 0 => show p ≤ (y 0 : ℕ) ∧ (y 0 : ℕ) < p + 1; omega
        | 1 => show 4 * n ≤ (y 1 : ℕ) ∧ (y 1 : ℕ) < 4 * n + 4; omega
        | 2 => show 0 ≤ (y 2 : ℕ) ∧ (y 2 : ℕ) < 0 + 256; omega
      have hc : (y 0 : ℕ) = 2 ∨ (y 0 : ℕ) = 1 ∨ (y 0 : ℕ) = 0 := by omega
      rcases hc with e | e | e
      · exact ⟨_, List.mem_append_left _ (List.mem_cons_self ..), key 2 (by decide) e⟩
      · exact ⟨_, List.mem_append_left _ (List.mem_cons_of_mem _ (List.mem_cons_self ..)), key 1 (by decide) e⟩
      · exact ⟨_, List.mem_append_left _ (List.mem_cons_of_mem _ (List.mem_cons_of_mem _ (List.mem_cons_self ..))), key 0 (by decide) e⟩
    · obtain ⟨p, hp, hm⟩ := ih (Nat.le_of_succ_le hn) (by omega)
      exact ⟨p, List.mem_append_right _ hp, hm⟩

theorem scoresAt_at (p : ℕ) (hp : p < 3) (a : Fin 1) (r : Fin 32) (k : Fin 256) :
    scoresAt arg1 harg1 arg2 harg2 arg7 arg8 x0 x1 p hp (ix3 a r k)
      = scoreU x0 x1 ⟨r / 4, by omega⟩ (ix2 ⟨4 * p + r % 4, by omega⟩ k) := by
  unfold scoresAt
  rw [View.readCov_eq_canon']
  show View.canon _ ((Rect.unit (s := S3x32x256) ![p, 0, 0] S1x32x256.size (inb_sAll p hp)).emb (ix3 a r k)) = _
  rw [unit_emb3 (inb_sAll p hp) a r k]
  have ha : (a : ℕ) = 0 := by omega
  have hr := r.2
  refine (View.canon_apply_of_pieces (scoresG x0 x1) _ (scores_of arg1 harg1 arg2 harg2 arg7 x0 x1 8 (le_refl 8)).mem _ ?_).trans ?_
  · exact scores_cover arg1 harg1 arg2 harg2 arg7 x0 x1 8 (le_refl 8) _ (show 0 + (r : ℕ) < 4 * 8 by omega)
  · refine scoreU_congr x0 x1 (Fin.ext (show (0 + (r : ℕ)) / 4 = r / 4 by omega)) ?_
    funext d
    refine Fin.ext ?_
    match d with
    | 0 => show 4 * (p + (a : ℕ)) + (0 + (r : ℕ)) % 4 = 4 * p + r % 4; omega
    | 1 => show 0 + (k : ℕ) = k; omega

/-- The user and the target of a row. -/
abbrev userOf (r : Fin 32) : Fin 8 := ⟨r / 4, by omega⟩
abbrev targetOf (r : Fin 32) : Fin 4 := ⟨r % 4, by omega⟩

theorem s0_at (r : Fin 32) (k : Fin 256) : scoresAt arg1 harg1 arg2 harg2 arg7 arg8 x0 x1 0 (by decide) (ix3 0 r k)
    = Spec.raw (qRow x1 (userOf r)) (xRow x0 (userOf r)) (targetOf r) k :=
  (scoresAt_at arg1 harg1 arg2 harg2 arg7 arg8 x0 x1 0 (by decide) 0 r k).trans
    (scoreMat_raw _ _ x1 _ (xRow x0 (userOf r)) (codesOf_at x0 _) _ (targetOf r) (by show 4 * 0 + (r : ℕ) % 4 = r % 4; omega) k)
theorem s1_at (r : Fin 32) (k : Fin 256) : scoresAt arg1 harg1 arg2 harg2 arg7 arg8 x0 x1 1 (by decide) (ix3 0 r k)
    = 1 * codeAt 0 (xRow x0 (userOf r) k (Spec.at32 (targetOf r) 24 lt24)) + ((256 : ℝ) : EReal) * codeAt 1 (xRow x0 (userOf r) k (Spec.at32 (targetOf r) 24 lt24)) :=
  (scoresAt_at arg1 harg1 arg2 harg2 arg7 arg8 x0 x1 1 (by decide) 0 r k).trans
    (scoreMat_lo _ _ x1 _ (xRow x0 (userOf r)) (codesOf_at x0 _) _ (targetOf r) (by show 4 * 1 + (r : ℕ) % 4 = 4 + r % 4; omega) k)
theorem s2_at (r : Fin 32) (k : Fin 256) : scoresAt arg1 harg1 arg2 harg2 arg7 arg8 x0 x1 2 (by decide) (ix3 0 r k)
    = 1 * codeAt 2 (xRow x0 (userOf r) k (Spec.at32 (targetOf r) 24 lt24)) + ((256 : ℝ) : EReal) * codeAt 3 (xRow x0 (userOf r) k (Spec.at32 (targetOf r) 24 lt24)) :=
  (scoresAt_at arg1 harg1 arg2 harg2 arg7 arg8 x0 x1 2 (by decide) 0 r k).trans
    (scoreMat_hi _ _ x1 _ (xRow x0 (userOf r)) (codesOf_at x0 _) _ (targetOf r) (by show 4 * 2 + (r : ℕ) % 4 = 8 + r % 4; omega) k)

/-- The stored weights. -/
theorem weightsPt_at (u : Fin 8) (t : Fin 4) (k : Fin 256) :
    weightsPt arg1 harg1 arg2 harg2 arg7 arg8 x0 x1 (ix3 u t k) = Spec.weight (qRow x1 u) (xRow x0 u) t k := by
  have hsc : ∀ v : FVec Ideal S32x256 .f32, (shapeCast S8x4x256 v shapeCasts_S32x256_S8x4x256 : FVec Ideal S8x4x256 .f32) (ix3 u t k) = v (ix2 ⟨u * 4 + t, by omega⟩ k) := by
    intro v; pointwise
  unfold weightsPt weightsOf k1_pay108
  rw [targets_eq]
  refine (hsc _).trans ((weight_at (count x1) (qScale x1) _ _ _ _ (qRow x1 (userOf ⟨u * 4 + t, by omega⟩)) (xRow x0 (userOf ⟨u * 4 + t, by omega⟩)) (targetOf ⟨u * 4 + t, by omega⟩)
    (count_at x1 _ 0) (qScale_at x1 _ 0) (s0_at arg1 harg1 arg2 harg2 arg7 arg8 x0 x1 _) (s1_at arg1 harg1 arg2 harg2 arg7 arg8 x0 x1 _) (s2_at arg1 harg1 arg2 harg2 arg7 arg8 x0 x1 _) k).trans ?_)
  have hu : userOf ⟨u * 4 + t, by omega⟩ = u := Fin.ext (show ((u : ℕ) * 4 + t) / 4 = u by omega)
  have ht : targetOf ⟨u * 4 + t, by omega⟩ = t := Fin.ext (show ((u : ℕ) * 4 + t) % 4 = t by omega)
  rw [hu, ht]

/-- The scaled weights. -/
theorem scaledPt_at (r : Fin 32) (k : Fin 256) :
    scaledPt arg1 harg1 arg2 harg2 arg7 arg8 x0 x1 (ix2 r k) = Spec.scaled (qRow x1 (userOf r)) (xRow x0 (userOf r)) (targetOf r) k := by
  unfold scaledPt scaledOf
  rw [targets_eq]
  exact scaled_at (count x1) (qScale x1) _ _ _ _ (qRow x1 (userOf r)) (xRow x0 (userOf r)) (targetOf r)
    (count_at x1 _ 0) (qScale_at x1 _ 0) (s0_at arg1 harg1 arg2 harg2 arg7 arg8 x0 x1 _) (s1_at arg1 harg1 arg2 harg2 arg7 arg8 x0 x1 _) (s2_at arg1 harg1 arg2 harg2 arg7 arg8 x0 x1 _) k

end
end Cert.KernelIdeal.Blk
-- ==== Proof.BlkPools.lean ====
module

public import proofs.«01_k».proof.Proof.BlkLoads

@[expose] public section

set_option maxRecDepth 16384

noncomputable section
namespace Cert.KernelIdeal.Blk
open Cert.KernelIdeal Cert.KernelIdeal.Gen
open Cert.Spec (codeAt)
open Idealize.ShloMosaic Idealize.ShloMosaic.TcCoe Idealize.SL.Sem Idealize.ShloMosaic.Tactic

/-! The pooling products loaded back, and the pooled codes a grid point stores, at an index. -/

section
variable (arg1 : Memref sig .tc .vmem S2048x128 .i32) (harg1 : arg1.IsWhole) (arg2 : Memref sig .tc .vmem S8x128 .i32) (harg2 : arg2.IsWhole)
    (arg7 : Memref sig .tc .vmem S8x256x512 .bf16) (arg8 : Memref sig .tc .vmem S3x32x256 .f32) (arg9 : Memref sig .tc .vmem S4x32x128 .f32)
    (x0 : IVec S2048x128 32) (x1 : IVec S8x128 32)

/-- User `u`'s pooling product. -/
def poolU (ws : FVec Ideal S32x256 .f32) (u : Fin 8) : FVec Ideal S4x512 .f32 := poolMat u u.2 ws (codesOf x0 u)
theorem poolU_at (ws : FVec Ideal S32x256 .f32) (u : Fin 8) (t : Fin 4) (l : Fin 512) :
    poolU x0 ws u (ix2 t l) = ∑ k : Fin 256, ws (ix2 ⟨4 * u + t, by omega⟩ k) * codeAt (l / 128) (xRow x0 u k ⟨l % 128, Nat.mod_lt _ (by decide)⟩) := by
  have e : ∀ C : FVec Ideal S1x256x512 .bf16, poolMat u u.2 ws C (ix2 t l) = ∑ k : Fin 256, ws (ix2 ⟨4 * u + t, by omega⟩ k) * C (ix3 0 k l) := by
    intro C
    unfold poolMat
    pointwise
  exact e (codesOf x0 u)
/-- The pooling scratch as one array: byte, row, lane. -/
def poolsG (ws : FVec Ideal S32x256 .f32) : S4x32x128.Idx → EReal := fun y =>
  poolU x0 ws ⟨(y 1 : ℕ) / 4, by have h : (y 1 : ℕ) < 32 := (y 1).2; omega⟩
    (ix2 ⟨(y 1 : ℕ) % 4, Nat.mod_lt _ (by decide)⟩ ⟨128 * (y 0 : ℕ) + (y 2 : ℕ), by have h : (y 0 : ℕ) < 4 := (y 0).2; have h : (y 2 : ℕ) < 128 := (y 2).2; omega⟩)

theorem poolU_congr (ws : FVec Ideal S32x256 .f32) {u v : Fin 8} {y z : S4x512.Idx} (h : u = v) (h' : y = z) : poolU x0 ws u y = poolU x0 ws v z := by rw [h, h']

theorem pool_piece (ws : FVec Ideal S32x256 .f32) (i : ℕ) (hi : i < 4) (u : ℕ) (hu : u < 8) (y : S1x4x128.Idx) :
    poolTile i hi u hu ws (codesAt arg1 harg1 arg7 x0 8 (le_refl 8) u hu) y
      = poolsG x0 ws ((Rect.unit (s := S4x32x128) ![i, 4 * u, 0] S1x4x128.size (inb_p i u hi hu)).emb y) := by
  idx_vars y
  rw [codesAt_eq arg1 harg1 arg7 x0 8 (le_refl 8) u hu hu]
  have e : poolTile i hi u hu ws (codesOf x0 ⟨u, hu⟩) (ix3 y0 y1 y2) = poolU x0 ws ⟨u, hu⟩ (ix2 y1 ⟨128 * i + y2, by omega⟩) := by
    show poolTile i hi u hu ws (codesOf x0 ⟨u, hu⟩) (ix3 y0 y1 y2) = poolMat u hu ws (codesOf x0 ⟨u, hu⟩) (ix2 y1 ⟨128 * i + y2, by omega⟩)
    unfold poolTile
    generalize poolMat u hu ws (codesOf x0 ⟨u, hu⟩) = S
    pointwise
  refine (e.trans ?_).trans (congrArg (poolsG x0 ws) (unit_emb3 (inb_p i u hi hu) y0 y1 y2)).symm
  have h0 : (y0 : ℕ) < 1 := y0.2
  have h1 : (y1 : ℕ) < 4 := y1.2
  refine poolU_congr x0 ws (Fin.ext ?_) ?_
  · show u = (4 * u + (y1 : ℕ)) / 4; omega
  · funext d
    refine Fin.ext ?_
    match d with
    | 0 => show (y1 : ℕ) = (4 * u + (y1 : ℕ)) % 4; omega
    | 1 => show 128 * i + (y2 : ℕ) = 128 * (i + (y0 : ℕ)) + (0 + (y2 : ℕ)); omega

theorem pools_of (n : ℕ) (hn : n ≤ 8) :
    View.PiecesOf (poolsG x0 (scaledPt arg1 harg1 arg2 harg2 arg7 arg8 x0 x1)) (poolsTo arg1 harg1 arg2 harg2 arg7 arg8 x0 x1 n hn) := by
  induction n with
  | zero => exact trivial
  | succ n ih =>
    refine piecesOf_append _ _ _ ?_ (ih _)
    exact ⟨pool_piece arg1 harg1 arg7 x0 _ 3 (by decide) n hn, pool_piece arg1 harg1 arg7 x0 _ 2 (by decide) n hn,
      pool_piece arg1 harg1 arg7 x0 _ 1 (by decide) n hn, pool_piece arg1 harg1 arg7 x0 _ 0 (by decide) n hn, trivial⟩

theorem pools_cover (n : ℕ) (hn : n ≤ 8) (y : S4x32x128.Idx) (hy : (y 1 : ℕ) < 4 * n) :
    ∃ p ∈ poolsTo arg1 harg1 arg2 harg2 arg7 arg8 x0 x1 n hn, y ∈ p.1.set := by
  induction n with
  | zero => omega
  | succ n ih =>
    by_cases h : 4 * n ≤ (y 1 : ℕ)
    · have h0 : (y 0 : ℕ) < 4 := (y 0).2
      have h2 : (y 2 : ℕ) < 128 := (y 2).2
      have key : ∀ i (hi : i < 4), (y 0 : ℕ) = i →
          y ∈ (Rect.unit (s := S4x32x128) ![i, 4 * n, 0] S1x4x128.size (inb_p i n hi hn)).set := by
        intro i hi e
        rw [Rect.mem_set_unit]
        intro a
        match a with
        | 0 => show i ≤ (y 0 : ℕ) ∧ (y 0 : ℕ) < i + 1; omega
        | 1 => show 4 * n ≤ (y 1 : ℕ) ∧ (y 1 : ℕ) < 4 * n + 4; omega
        | 2 => show 0 ≤ (y 2 : ℕ) ∧ (y 2 : ℕ) < 0 + 128; omega
      have hc : (y 0 : ℕ) = 3 ∨ (y 0 : ℕ) = 2 ∨ (y 0 : ℕ) = 1 ∨ (y 0 : ℕ) = 0 := by omega
      rcases hc with e | e | e | e
      · exact ⟨_, List.mem_append_left _ (List.mem_cons_self ..), key 3 (by decide) e⟩
      · exact ⟨_, List.mem_append_left _ (List.mem_cons_of_mem _ (List.mem_cons_self ..)), key 2 (by decide) e⟩
      · exact ⟨_, List.mem_append_left _ (List.mem_cons_of_mem _ (List.mem_cons_of_mem _ (List.mem_cons_self ..))), key 1 (by decide) e⟩
      · exact ⟨_, List.mem_append_left _ (List.mem_cons_of_mem _ (List.mem_cons_of_mem _ (List.mem_cons_of_mem _ (List.mem_cons_self ..)))), key 0 (by decide) e⟩
    · obtain ⟨p, hp, hm⟩ := ih (Nat.le_of_succ_le hn) (by omega)
      exact ⟨p, List.mem_append_right _ hp, hm⟩

/-- A row's pooled lane of byte `i`. -/
theorem poolAt_at (i : ℕ) (hi : i < 4) (a : Fin 1) (r : Fin 32) (l : Fin 128) :
    poolAt arg1 harg1 arg2 harg2 arg7 arg8 arg9 x0 x1 i hi (ix3 a r l)
      = ∑ k : Fin 256, Spec.scaled (qRow x1 (userOf r)) (xRow x0 (userOf r)) (targetOf r) k * codeAt i (xRow x0 (userOf r) k l) := by
  unfold poolAt
  rw [View.readCov_eq_canon']
  show View.canon _ ((Rect.unit (s := S4x32x128) ![i, 0, 0] S1x32x128.size (inb_pAll i hi)).emb (ix3 a r l)) = _
  rw [unit_emb3 (inb_pAll i hi) a r l]
  have ha : (a : ℕ) = 0 := by omega
  have hr := r.2
  have hl := l.2
  refine (View.canon_apply_of_pieces (poolsG x0 (scaledPt arg1 harg1 arg2 harg2 arg7 arg8 x0 x1)) _ (pools_of arg1 harg1 arg2 harg2 arg7 arg8 x0 x1 8 (le_refl 8)).mem _ ?_).trans ?_
  · exact pools_cover arg1 harg1 arg2 harg2 arg7 arg8 x0 x1 8 (le_refl 8) _ (show 0 + (r : ℕ) < 4 * 8 by omega)
  · refine (poolU_congr x0 _ (v := userOf r) (z := ix2 (targetOf r) ⟨128 * i + l, by omega⟩) (Fin.ext (show (0 + (r : ℕ)) / 4 = r / 4 by omega)) ?_).trans ?_
    · funext d
      refine Fin.ext ?_
      match d with
      | 0 => show (0 + (r : ℕ)) % 4 = r % 4; omega
      | 1 => show 128 * (i + (a : ℕ)) + (0 + (l : ℕ)) = 128 * i + l; omega
    · rw [poolU_at]
      refine Finset.sum_congr rfl fun k _ => ?_
      have e1 : (128 * i + (l : ℕ)) / 128 = i := by omega
      have e2 : (128 * i + (l : ℕ)) % 128 = l := by omega
      have e3 : 4 * ((r : ℕ) / 4) + (r : ℕ) % 4 = r := by omega
      simp only [e1, e2, e3]
      rw [scaledPt_at]

theorem gathered_at (p : FVec Ideal S1x32x128 .f32) (r : Fin 32) (l : Fin 128) :
    gathered p (ix2 r l) = p (ix3 0 r ⟨32 * ((r : ℕ) % 4) + min ((l : ℕ) / 4) 23, by omega⟩) := by
  unfold gathered
  pointwise
  rw [srcLane_at]
  have e : (BitVec.ofNat 32 (32 * ((r : ℕ) % 4) + min ((l : ℕ) / 4) 23)).toNat % 128 = 32 * ((r : ℕ) % 4) + min ((l : ℕ) / 4) 23 := by
    rw [BitVec.toNat_ofNat]; omega
  exact congrArg p (congrArg (ix3 0 r) (Fin.ext e))

/-- The pick of one of four by a byte's number. -/
theorem four_at (b : ℕ) (hb : b < 4) (f : ℕ → EReal) :
    Scalar.select (IntOp.cmpi CmpIPredicate.slt (BitVec.ofNat 32 b) 3#32)
      (Scalar.select (IntOp.cmpi CmpIPredicate.slt (BitVec.ofNat 32 b) 2#32)
        (Scalar.select (IntOp.cmpi CmpIPredicate.slt (BitVec.ofNat 32 b) 1#32) (f 0) (f 1)) (f 2)) (f 3) = f b := by
  interval_cases b <;> rfl

theorem pooledOf_eq (p0 p1 p2 p3 : FVec Ideal S1x32x128 .f32) : pooledOf p0 p1 p2 p3
    = truncf .bf16 (shapeCast S8x4x96 (extractStridedSlice S32x96 ![0, 0]
      (select (cmpi .slt kernelRun1_A.sl.v1049 (broadcast S32x128 3#32))
        (select (cmpi .slt kernelRun1_A.sl.v1049 (broadcast S32x128 2#32))
          (select (cmpi .slt kernelRun1_A.sl.v1049 (broadcast S32x128 1#32)) (gathered p0) (gathered p1)) (gathered p2)) (gathered p3))
      slices_S32x128_o0_0_S32x96) shapeCasts_S32x96_S8x4x96) bitsLt_bf16_f32 := rfl

theorem pooledPt_at (u : Fin 8) (t : Fin 4) (d : Fin 96) :
    pooledPt arg1 harg1 arg2 harg2 arg7 arg8 arg9 x0 x1 (ix3 u t d) = Spec.pooled (qRow x1 u) (xRow x0 u) t d := by
  unfold pooledPt
  rw [pooledOf_eq]
  generalize hP0 : poolAt arg1 harg1 arg2 harg2 arg7 arg8 arg9 x0 x1 0 (by decide) = P0
  generalize hP1 : poolAt arg1 harg1 arg2 harg2 arg7 arg8 arg9 x0 x1 1 (by decide) = P1
  generalize hP2 : poolAt arg1 harg1 arg2 harg2 arg7 arg8 arg9 x0 x1 2 (by decide) = P2
  generalize hP3 : poolAt arg1 harg1 arg2 harg2 arg7 arg8 arg9 x0 x1 3 (by decide) = P3
  pointwise
  simp only [byteNo_at, gathered_at]
  subst hP0 hP1 hP2 hP3
  have hd := d.2
  have ht := t.2
  have hu := u.2
  simp only [poolAt_at]
  refine (four_at (d % 4) (Nat.mod_lt _ (by decide)) fun b => ∑ k : Fin 256,
    Spec.scaled (qRow x1 (userOf ⟨u * 4 + t, by omega⟩)) (xRow x0 (userOf ⟨u * 4 + t, by omega⟩)) (targetOf ⟨u * 4 + t, by omega⟩) k
      * codeAt b (xRow x0 (userOf ⟨u * 4 + t, by omega⟩) k ⟨32 * ((u * 4 + t : ℕ) % 4) + min (d / 4 : ℕ) 23, by omega⟩)).trans ?_
  have e1 : userOf ⟨u * 4 + t, by omega⟩ = u := Fin.ext (show ((u : ℕ) * 4 + t) / 4 = u by omega)
  have e2 : targetOf ⟨u * 4 + t, by omega⟩ = t := Fin.ext (show ((u : ℕ) * 4 + t) % 4 = t by omega)
  have e3 : (⟨32 * ((u * 4 + t : ℕ) % 4) + min (d / 4 : ℕ) 23, by omega⟩ : Fin 128) = Spec.atCode t d :=
    Fin.ext (show 32 * (((u : ℕ) * 4 + t) % 4) + min ((d : ℕ) / 4) 23 = 32 * t + d / 4 by omega)
  simp only [e1, e2, e3]
  rfl

end
end Cert.KernelIdeal.Blk
-- ==== Proof.Whole.lean ====
module

public import proofs.«01_k».proof.Proof.BlkPools
public import proofs.«01_k».proof.Proof.Gen.KernelIdeal.Frame
public import Idealize.ShloMosaic.Lib.Pipeline.ValueKit

@[expose] public section

set_option maxRecDepth 16384

noncomputable section
namespace Cert.KernelIdeal.Blk
open Cert.KernelIdeal Cert.KernelIdeal.Gen
open Idealize.ShloMosaic Idealize.ShloMosaic.TcCoe Idealize.SL.Sem Idealize.ShloMosaic.Tactic

/-! The whole results as functions of the eight arguments of each kind, and a grid point's part of them. -/

section
variable (xs : Fin 8 → IVec S262144x128 32) (qs : Fin 8 → IVec S1024x128 32)

/-- The chunk user `b` is in. -/
def chunkOf (b : Fin 8192) : Fin 8 := ⟨b / 1024, by omega⟩
/-- User `b`'s target words. -/
def qOf (b : Fin 8192) : Fin 128 → BitVec 32 := fun l => qs (chunkOf b) (ix2 ⟨b % 1024, Nat.mod_lt _ (by decide)⟩ l)
/-- User `b`'s gathered words. -/
def xOf (b : Fin 8192) : Fin 256 → Fin 128 → BitVec 32 := fun k l => xs (chunkOf b) (ix2 ⟨b % 1024 * 256 + k, by omega⟩ l)
/-- The weights. -/
def weightsAll : FVec Ideal S8192x4x256 .f32 := fun i => Spec.weight (qOf qs (i 0)) (xOf xs (i 0)) (i 1) (i 2)
/-- The pooled values. -/
def pooledAll : FVec Ideal S8192x4x96 .bf16 := fun i => Spec.pooled (qOf qs (i 0)) (xOf xs (i 0)) (i 1) (i 2)

variable {x0 : IVec S2048x128 32} {x1 : IVec S8x128 32} (J : Fin 8) (n : ℕ)
  (h0 : ∀ (r : Fin 2048) (l : Fin 128) (h : n * 2048 + r < 262144), x0 (ix2 r l) = xs J (ix2 ⟨n * 2048 + r, h⟩ l))
  (h1 : ∀ (u : Fin 8) (l : Fin 128) (h : n * 8 + u < 1024), x1 (ix2 u l) = qs J (ix2 ⟨n * 8 + u, h⟩ l))
include h0 h1

theorem rows_eq (hn : n < 128) (u : Fin 8) (b : Fin 8192) (hb : (b : ℕ) = (n + 128 * J) * 8 + u) :
    qRow x1 u = qOf qs b ∧ xRow x0 u = xOf xs b := by
  have hu := u.2
  have hJ := J.2
  have e : chunkOf b = J := Fin.ext (show (b : ℕ) / 1024 = J by omega)
  constructor
  · funext l
    refine (h1 u l (by omega)).trans ?_
    unfold qOf
    rw [e]
    exact congrArg (fun z => qs J (ix2 z l)) (Fin.ext (show n * 8 + (u : ℕ) = b % 1024 by omega))
  · funext k l
    have hk := k.2
    refine (h0 _ l (show n * 2048 + (256 * (u : ℕ) + k) < 262144 by omega)).trans ?_
    unfold xOf
    rw [e]
    exact congrArg (fun z => xs J (ix2 z l)) (Fin.ext (show n * 2048 + (256 * (u : ℕ) + k) = b % 1024 * 256 + k by omega))

end

section
variable (c : Dev nD) (i : grid1.Coords) (arg1 : Memref sig .tc .vmem S2048x128 .i32) (harg1 : arg1.IsWhole) (arg2 : Memref sig .tc .vmem S8x128 .i32) (harg2 : arg2.IsWhole) (arg5 : Memref sig .tc .vmem S8x4x96 .bf16) (harg5 : arg5.IsWhole) (arg6 : Memref sig .tc .vmem S8x4x256 .f32) (harg6 : arg6.IsWhole) (arg7 : Memref sig .tc .vmem S8x256x512 .bf16) (harg7 : arg7.IsWhole) (arg8 : Memref sig .tc .vmem S3x32x256 .f32) (harg8 : arg8.IsWhole) (arg9 : Memref sig .tc .vmem S4x32x128 .f32) (harg9 : arg9.IsWhole)
    (x0 : IVec S2048x128 32) (x1 : IVec S8x128 32)
    (xs : Fin 8 → IVec S262144x128 32) (qs : Fin 8 → IVec S1024x128 32) (J : Fin 8) (n : ℕ) (hn : n < 128)
    (h0 : ∀ (r : Fin 2048) (l : Fin 128) (h : n * 2048 + r < 262144), x0 (ix2 r l) = xs J (ix2 ⟨n * 2048 + r, h⟩ l))
    (h1 : ∀ (u : Fin 8) (l : Fin 128) (h : n * 8 + u < 1024), x1 (ix2 u l) = qs J (ix2 ⟨n * 8 + u, h⟩ l))

theorem zeros3 : (![0, 0, 0] : Fin 3 → ℕ) = fun _ => 0 := by funext a; fin_cases a <;> rfl

/-- One whole-block store leaves its payload. -/
theorem left_one {S : Shape} {e : EltTy} (v : View sig .tc .vmem S e) (off : Fin S.rank → ℕ) (h : off = fun _ => 0) (inb : ∀ a, off a + S.size a ≤ S.size a)
    (P : S.Idx → Elt Ideal e) : v.read (Elt Ideal) (v.writes (Elt Ideal) v.junk [⟨Rect.unit off S.size inb, P⟩]) = P := by
  rw [View.read_writes_eq_canon v _ _ fun y => ⟨_, List.mem_singleton_self _, View.mem_set_unit_zero h inb y⟩, View.canon_unit_zero h]

include hn h0 h1
/-- What the one store of the weights leaves: point `n` of chunk `J`'s part of the whole weights. -/
theorem left_weights (v : View sig .tc .vmem S8x4x256 .f32) (L : List (View.Piece (Elt Ideal) S8x4x256 .f32))
    (hL : L = (kernelRun1_A (F := Ideal) c i arg1 harg1 arg2 harg2 arg5 harg5 arg6 harg6 arg7 harg7 arg8 harg8 arg9 harg9 x0 x1).2.1) (y : S8x4x256.Idx)
    (z : S8192x4x256.Idx) (hz0 : (z 0 : ℕ) = (n + 128 * J) * 8 + y 0) (hz1 : (z 1 : ℕ) = y 1) (hz2 : (z 2 : ℕ) = y 2) :
    v.read (Elt Ideal) (v.writes (Elt Ideal) v.junk L) y = weightsAll xs qs z := by
  rw [hL.trans (run_weights c i arg1 harg1 arg2 harg2 arg5 harg5 arg6 harg6 arg7 harg7 arg8 harg8 arg9 harg9 x0 x1), left_one v _ zeros3]
  obtain ⟨e1, e2⟩ := rows_eq xs qs J n h0 h1 hn (y 0) (z 0) hz0
  have e3 : z 1 = y 1 := Fin.ext hz1
  have e4 : z 2 = y 2 := Fin.ext hz2
  unfold weightsAll
  rw [← e1, ← e2, e3, e4]
  clear e1 e2 e3 e4 hz0 hz1 hz2
  idx_vars y
  exact weightsPt_at arg1 harg1 arg2 harg2 arg7 arg8 x0 x1 y0 y1 y2
/-- What the one store of the pooled codes leaves: point `n` of chunk `J`'s part of the whole pooled values. -/
theorem left_pooled (v : View sig .tc .vmem S8x4x96 .bf16) (L : List (View.Piece (Elt Ideal) S8x4x96 .bf16))
    (hL : L = (kernelRun1_A (F := Ideal) c i arg1 harg1 arg2 harg2 arg5 harg5 arg6 harg6 arg7 harg7 arg8 harg8 arg9 harg9 x0 x1).1) (y : S8x4x96.Idx)
    (z : S8192x4x96.Idx) (hz0 : (z 0 : ℕ) = (n + 128 * J) * 8 + y 0) (hz1 : (z 1 : ℕ) = y 1) (hz2 : (z 2 : ℕ) = y 2) :
    v.read (Elt Ideal) (v.writes (Elt Ideal) v.junk L) y = pooledAll xs qs z := by
  rw [hL.trans (run_pooled c i arg1 harg1 arg2 harg2 arg5 harg5 arg6 harg6 arg7 harg7 arg8 harg8 arg9 harg9 x0 x1), left_one v _ zeros3]
  obtain ⟨e1, e2⟩ := rows_eq xs qs J n h0 h1 hn (y 0) (z 0) hz0
  have e3 : z 1 = y 1 := Fin.ext hz1
  have e4 : z 2 = y 2 := Fin.ext hz2
  unfold pooledAll
  rw [← e1, ← e2, e3, e4]
  clear e1 e2 e3 e4 hz0 hz1 hz2
  idx_vars y
  exact pooledPt_at arg1 harg1 arg2 harg2 arg7 arg8 arg9 x0 x1 y0 y1 y2
end

/-- An array written on rows `a` to `a + 1024` over one that is right below `a` is right below `a + 1024`. -/
theorem rows_step {s : Shape} {α : Type} (row : s.Idx → ℕ) (a : ℕ) (G E A A' : s.Idx → α) (h : A = fun i => if a ≤ row i ∧ row i < a + 1024 then G i else E i)
    (hE : E = A') (ih : ∀ i, row i < a → A' i = G i) (i : s.Idx) (hi : row i < a + 1024) : A i = G i := by
  subst hE
  rw [h]
  by_cases ha : a ≤ row i
  · exact if_pos ⟨ha, hi⟩
  · exact (if_neg fun hc => ha hc.1).trans (ih i (by omega))
end Cert.KernelIdeal.Blk
-- ==== Proof.Calls.lean ====
module

public import proofs.«01_k».proof.Proof.Whole

@[expose] public section

set_option maxRecDepth 16384

noncomputable section
namespace Cert.KernelIdeal.Blk
open Cert.KernelIdeal Cert.KernelIdeal.Gen
open Idealize.ShloMosaic Idealize.ShloMosaic.TcCoe Idealize.SL.Sem Idealize.ShloMosaic.Tactic

/-! What each of the eight calls leaves in its two result arrays: its 1024 users' rows of the whole results, the other
rows as the call found them. `left_weights` and `left_pooled` say what a grid point of any call stores; a call adds where its
blocks lie. -/

section
variable (V : (c : Dev nD) → (b : Ref sig .tc) → Buf (Elt Ideal) ((c : Thread nD τ).loc b)) (xs : Fin 8 → IVec S262144x128 32) (qs : Fin 8 → IVec S1024x128 32) (c : Dev nD)

/-! Call 0. -/
theorem idx0 : ∀ t : Fin cfg0.N, win0_0.index t 0 = t ∧ win0_0.index t 1 = 0 ∧ win0_1.index t 0 = t ∧ win0_1.index t 1 = 0
    ∧ win0_2.index t 0 = t ∧ win0_2.index t 1 = 0 ∧ win0_2.index t 2 = 0 ∧ win0_3.index t 0 = t ∧ win0_3.index t 1 = 0 ∧ win0_3.index t 2 = 0 := by decide +kernel
theorem read0_x (hx : V c main_arg0 = xs 0) (t : Fin cfg0.N) (r : Fin 2048) (l : Fin 128) (h : (t : ℕ) * 2048 + r < 262144) :
    (iblk0 V c 0 t : IVec S2048x128 32) (ix2 r l) = xs 0 (ix2 ⟨(t : ℕ) * 2048 + r, h⟩ l) := by
  rw [← hx]; blk_ext [iblk0, idx0 t]
theorem read0_q (hq : V c main_arg8 = qs 0) (t : Fin cfg0.N) (u : Fin 8) (l : Fin 128) (h : (t : ℕ) * 8 + u < 1024) :
    (iblk0 V c 1 t : IVec S8x128 32) (ix2 u l) = qs 0 (ix2 ⟨(t : ℕ) * 8 + u, h⟩ l) := by
  rw [← hq]; blk_ext [iblk0, idx0 t]
theorem weights0 (hx : V c main_arg0 = xs 0) (hq : V c main_arg8 = qs 0) : (dat0 V c).arrAt 3 cfg0.N
    = fun i => if 0 ≤ (i 0 : ℕ) ∧ (i 0 : ℕ) < 0 + 1024 then weightsAll xs qs i else V c main_v0_1 i := by
  refine (dat0 V c).arrAt_eq_of_coversWhere 3 _ (fun β => 0 ≤ β 0 ∧ β 0 < 0 + 128) (by decide +kernel) (fun t hf y => ?_)
    (fun j => by blk_simp [Pipeline.Window.cell_apply]; omega)
  blk_simp
  rw [after0_3]
  dsimp only [outsAt0, out0_A_3]
  refine left_weights c (grid1.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk0 V c 0 t) (iblk0 V c 1 t)
    xs qs 0 t t.2 (read0_x V xs c hx t) (read0_q V qs c hq t) VO0_3 _ (by sl_kernel_rfl) y _ ?_ ?_ ?_ <;> blk_simp [idx0 t] <;> rfl
theorem pooled0 (hx : V c main_arg0 = xs 0) (hq : V c main_arg8 = qs 0) : (dat0 V c).arrAt 2 cfg0.N
    = fun i => if 0 ≤ (i 0 : ℕ) ∧ (i 0 : ℕ) < 0 + 1024 then pooledAll xs qs i else V c main_v0_0 i := by
  refine (dat0 V c).arrAt_eq_of_coversWhere 2 _ (fun β => 0 ≤ β 0 ∧ β 0 < 0 + 128) (by decide +kernel) (fun t hf y => ?_)
    (fun j => by blk_simp [Pipeline.Window.cell_apply]; omega)
  blk_simp
  rw [after0_2]
  dsimp only [outsAt0, out0_A_2]
  refine left_pooled c (grid1.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk0 V c 0 t) (iblk0 V c 1 t)
    xs qs 0 t t.2 (read0_x V xs c hx t) (read0_q V qs c hq t) VO0_2 _ (by sl_kernel_rfl) y _ ?_ ?_ ?_ <;> blk_simp [idx0 t] <;> rfl

/-! Call 1. -/
theorem idx1 : ∀ t : Fin cfg1.N, win1_0.index t 0 = t ∧ win1_0.index t 1 = 0 ∧ win1_1.index t 0 = t ∧ win1_1.index t 1 = 0
    ∧ win1_2.index t 0 = t + 128 ∧ win1_2.index t 1 = 0 ∧ win1_2.index t 2 = 0 ∧ win1_3.index t 0 = t + 128 ∧ win1_3.index t 1 = 0 ∧ win1_3.index t 2 = 0 := by decide +kernel
theorem read1_x (hx : V c main_arg1 = xs 1) (t : Fin cfg1.N) (r : Fin 2048) (l : Fin 128) (h : (t : ℕ) * 2048 + r < 262144) :
    (iblk1 V c 0 t : IVec S2048x128 32) (ix2 r l) = xs 1 (ix2 ⟨(t : ℕ) * 2048 + r, h⟩ l) := by
  rw [← hx]; blk_ext [iblk1, idx1 t]
theorem read1_q (hq : V c main_arg9 = qs 1) (t : Fin cfg1.N) (u : Fin 8) (l : Fin 128) (h : (t : ℕ) * 8 + u < 1024) :
    (iblk1 V c 1 t : IVec S8x128 32) (ix2 u l) = qs 1 (ix2 ⟨(t : ℕ) * 8 + u, h⟩ l) := by
  rw [← hq]; blk_ext [iblk1, idx1 t]
theorem weights1 (hx : V c main_arg1 = xs 1) (hq : V c main_arg9 = qs 1) : (dat1 V c).arrAt 3 cfg1.N
    = fun i => if 1024 ≤ (i 0 : ℕ) ∧ (i 0 : ℕ) < 1024 + 1024 then weightsAll xs qs i else V c main_v1_1 i := by
  refine (dat1 V c).arrAt_eq_of_coversWhere 3 _ (fun β => 128 ≤ β 0 ∧ β 0 < 128 + 128) (by decide +kernel) (fun t hf y => ?_)
    (fun j => by blk_simp [Pipeline.Window.cell_apply]; omega)
  blk_simp
  rw [after1_3]
  dsimp only [outsAt1, out1_A_3]
  refine left_weights c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t)
    xs qs 1 t t.2 (read1_x V xs c hx t) (read1_q V qs c hq t) VO1_3 _ rfl y _ ?_ ?_ ?_ <;> blk_simp [idx1 t] <;> rfl
theorem pooled1 (hx : V c main_arg1 = xs 1) (hq : V c main_arg9 = qs 1) : (dat1 V c).arrAt 2 cfg1.N
    = fun i => if 1024 ≤ (i 0 : ℕ) ∧ (i 0 : ℕ) < 1024 + 1024 then pooledAll xs qs i else V c main_v1_0 i := by
  refine (dat1 V c).arrAt_eq_of_coversWhere 2 _ (fun β => 128 ≤ β 0 ∧ β 0 < 128 + 128) (by decide +kernel) (fun t hf y => ?_)
    (fun j => by blk_simp [Pipeline.Window.cell_apply]; omega)
  blk_simp
  rw [after1_2]
  dsimp only [outsAt1, out1_A_2]
  refine left_pooled c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t)
    xs qs 1 t t.2 (read1_x V xs c hx t) (read1_q V qs c hq t) VO1_2 _ rfl y _ ?_ ?_ ?_ <;> blk_simp [idx1 t] <;> rfl

/-! Call 2. -/
theorem idx2 : ∀ t : Fin cfg2.N, win2_0.index t 0 = t ∧ win2_0.index t 1 = 0 ∧ win2_1.index t 0 = t ∧ win2_1.index t 1 = 0
    ∧ win2_2.index t 0 = t + 256 ∧ win2_2.index t 1 = 0 ∧ win2_2.index t 2 = 0 ∧ win2_3.index t 0 = t + 256 ∧ win2_3.index t 1 = 0 ∧ win2_3.index t 2 = 0 := by decide +kernel
theorem read2_x (hx : V c main_arg2 = xs 2) (t : Fin cfg2.N) (r : Fin 2048) (l : Fin 128) (h : (t : ℕ) * 2048 + r < 262144) :
    (iblk2 V c 0 t : IVec S2048x128 32) (ix2 r l) = xs 2 (ix2 ⟨(t : ℕ) * 2048 + r, h⟩ l) := by
  rw [← hx]; blk_ext [iblk2, idx2 t]
theorem read2_q (hq : V c main_arg10 = qs 2) (t : Fin cfg2.N) (u : Fin 8) (l : Fin 128) (h : (t : ℕ) * 8 + u < 1024) :
    (iblk2 V c 1 t : IVec S8x128 32) (ix2 u l) = qs 2 (ix2 ⟨(t : ℕ) * 8 + u, h⟩ l) := by
  rw [← hq]; blk_ext [iblk2, idx2 t]
theorem weights2 (hx : V c main_arg2 = xs 2) (hq : V c main_arg10 = qs 2) : (dat2 V c).arrAt 3 cfg2.N
    = fun i => if 2048 ≤ (i 0 : ℕ) ∧ (i 0 : ℕ) < 2048 + 1024 then weightsAll xs qs i else V c main_v2_1 i := by
  refine (dat2 V c).arrAt_eq_of_coversWhere 3 _ (fun β => 256 ≤ β 0 ∧ β 0 < 256 + 128) (by decide +kernel) (fun t hf y => ?_)
    (fun j => by blk_simp [Pipeline.Window.cell_apply]; omega)
  blk_simp
  rw [after2_3]
  dsimp only [outsAt2, out2_A_3]
  refine left_weights c (grid1.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (iblk2 V c 0 t) (iblk2 V c 1 t)
    xs qs 2 t t.2 (read2_x V xs c hx t) (read2_q V qs c hq t) VO2_3 _ (by sl_kernel_rfl) y _ ?_ ?_ ?_ <;> blk_simp [idx2 t] <;> rfl
theorem pooled2 (hx : V c main_arg2 = xs 2) (hq : V c main_arg10 = qs 2) : (dat2 V c).arrAt 2 cfg2.N
    = fun i => if 2048 ≤ (i 0 : ℕ) ∧ (i 0 : ℕ) < 2048 + 1024 then pooledAll xs qs i else V c main_v2_0 i := by
  refine (dat2 V c).arrAt_eq_of_coversWhere 2 _ (fun β => 256 ≤ β 0 ∧ β 0 < 256 + 128) (by decide +kernel) (fun t hf y => ?_)
    (fun j => by blk_simp [Pipeline.Window.cell_apply]; omega)
  blk_simp
  rw [after2_2]
  dsimp only [outsAt2, out2_A_2]
  refine left_pooled c (grid1.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (iblk2 V c 0 t) (iblk2 V c 1 t)
    xs qs 2 t t.2 (read2_x V xs c hx t) (read2_q V qs c hq t) VO2_2 _ (by sl_kernel_rfl) y _ ?_ ?_ ?_ <;> blk_simp [idx2 t] <;> rfl

/-! Call 3. -/
theorem idx3 : ∀ t : Fin cfg3.N, win3_0.index t 0 = t ∧ win3_0.index t 1 = 0 ∧ win3_1.index t 0 = t ∧ win3_1.index t 1 = 0
    ∧ win3_2.index t 0 = t + 384 ∧ win3_2.index t 1 = 0 ∧ win3_2.index t 2 = 0 ∧ win3_3.index t 0 = t + 384 ∧ win3_3.index t 1 = 0 ∧ win3_3.index t 2 = 0 := by decide +kernel
theorem read3_x (hx : V c main_arg3 = xs 3) (t : Fin cfg3.N) (r : Fin 2048) (l : Fin 128) (h : (t : ℕ) * 2048 + r < 262144) :
    (iblk3 V c 0 t : IVec S2048x128 32) (ix2 r l) = xs 3 (ix2 ⟨(t : ℕ) * 2048 + r, h⟩ l) := by
  rw [← hx]; blk_ext [iblk3, idx3 t]
theorem read3_q (hq : V c main_arg11 = qs 3) (t : Fin cfg3.N) (u : Fin 8) (l : Fin 128) (h : (t : ℕ) * 8 + u < 1024) :
    (iblk3 V c 1 t : IVec S8x128 32) (ix2 u l) = qs 3 (ix2 ⟨(t : ℕ) * 8 + u, h⟩ l) := by
  rw [← hq]; blk_ext [iblk3, idx3 t]
theorem weights3 (hx : V c main_arg3 = xs 3) (hq : V c main_arg11 = qs 3) : (dat3 V c).arrAt 3 cfg3.N
    = fun i => if 3072 ≤ (i 0 : ℕ) ∧ (i 0 : ℕ) < 3072 + 1024 then weightsAll xs qs i else V c main_v3_1 i := by
  refine (dat3 V c).arrAt_eq_of_coversWhere 3 _ (fun β => 384 ≤ β 0 ∧ β 0 < 384 + 128) (by decide +kernel) (fun t hf y => ?_)
    (fun j => by blk_simp [Pipeline.Window.cell_apply]; omega)
  blk_simp
  rw [after3_3]
  dsimp only [outsAt3, out3_A_3]
  refine left_weights c (grid1.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (iblk3 V c 0 t) (iblk3 V c 1 t)
    xs qs 3 t t.2 (read3_x V xs c hx t) (read3_q V qs c hq t) VO3_3 _ (by sl_kernel_rfl) y _ ?_ ?_ ?_ <;> blk_simp [idx3 t] <;> rfl
theorem pooled3 (hx : V c main_arg3 = xs 3) (hq : V c main_arg11 = qs 3) : (dat3 V c).arrAt 2 cfg3.N
    = fun i => if 3072 ≤ (i 0 : ℕ) ∧ (i 0 : ℕ) < 3072 + 1024 then pooledAll xs qs i else V c main_v3_0 i := by
  refine (dat3 V c).arrAt_eq_of_coversWhere 2 _ (fun β => 384 ≤ β 0 ∧ β 0 < 384 + 128) (by decide +kernel) (fun t hf y => ?_)
    (fun j => by blk_simp [Pipeline.Window.cell_apply]; omega)
  blk_simp
  rw [after3_2]
  dsimp only [outsAt3, out3_A_2]
  refine left_pooled c (grid1.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (iblk3 V c 0 t) (iblk3 V c 1 t)
    xs qs 3 t t.2 (read3_x V xs c hx t) (read3_q V qs c hq t) VO3_2 _ (by sl_kernel_rfl) y _ ?_ ?_ ?_ <;> blk_simp [idx3 t] <;> rfl

/-! Call 4. -/
theorem idx4 : ∀ t : Fin cfg4.N, win4_0.index t 0 = t ∧ win4_0.index t 1 = 0 ∧ win4_1.index t 0 = t ∧ win4_1.index t 1 = 0
    ∧ win4_2.index t 0 = t + 512 ∧ win4_2.index t 1 = 0 ∧ win4_2.index t 2 = 0 ∧ win4_3.index t 0 = t + 512 ∧ win4_3.index t 1 = 0 ∧ win4_3.index t 2 = 0 := by decide +kernel
theorem read4_x (hx : V c main_arg4 = xs 4) (t : Fin cfg4.N) (r : Fin 2048) (l : Fin 128) (h : (t : ℕ) * 2048 + r < 262144) :
    (iblk4 V c 0 t : IVec S2048x128 32) (ix2 r l) = xs 4 (ix2 ⟨(t : ℕ) * 2048 + r, h⟩ l) := by
  rw [← hx]; blk_ext [iblk4, idx4 t]
theorem read4_q (hq : V c main_arg12 = qs 4) (t : Fin cfg4.N) (u : Fin 8) (l : Fin 128) (h : (t : ℕ) * 8 + u < 1024) :
    (iblk4 V c 1 t : IVec S8x128 32) (ix2 u l) = qs 4 (ix2 ⟨(t : ℕ) * 8 + u, h⟩ l) := by
  rw [← hq]; blk_ext [iblk4, idx4 t]
theorem weights4 (hx : V c main_arg4 = xs 4) (hq : V c main_arg12 = qs 4) : (dat4 V c).arrAt 3 cfg4.N
    = fun i => if 4096 ≤ (i 0 : ℕ) ∧ (i 0 : ℕ) < 4096 + 1024 then weightsAll xs qs i else V c main_v4_1 i := by
  refine (dat4 V c).arrAt_eq_of_coversWhere 3 _ (fun β => 512 ≤ β 0 ∧ β 0 < 512 + 128) (by decide +kernel) (fun t hf y => ?_)
    (fun j => by blk_simp [Pipeline.Window.cell_apply]; omega)
  blk_simp
  rw [after4_3]
  dsimp only [outsAt4, out4_A_3]
  refine left_weights c (grid1.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (iblk4 V c 0 t) (iblk4 V c 1 t)
    xs qs 4 t t.2 (read4_x V xs c hx t) (read4_q V qs c hq t) VO4_3 _ (by sl_kernel_rfl) y _ ?_ ?_ ?_ <;> blk_simp [idx4 t] <;> rfl
theorem pooled4 (hx : V c main_arg4 = xs 4) (hq : V c main_arg12 = qs 4) : (dat4 V c).arrAt 2 cfg4.N
    = fun i => if 4096 ≤ (i 0 : ℕ) ∧ (i 0 : ℕ) < 4096 + 1024 then pooledAll xs qs i else V c main_v4_0 i := by
  refine (dat4 V c).arrAt_eq_of_coversWhere 2 _ (fun β => 512 ≤ β 0 ∧ β 0 < 512 + 128) (by decide +kernel) (fun t hf y => ?_)
    (fun j => by blk_simp [Pipeline.Window.cell_apply]; omega)
  blk_simp
  rw [after4_2]
  dsimp only [outsAt4, out4_A_2]
  refine left_pooled c (grid1.coords t) (ms4_0 t) (hs4_0 t) (ms4_1 t) (hs4_1 t) (ms4_2 t) (hs4_2 t) (ms4_3 t) (hs4_3 t) scM4_0 (Memref.isWhole_whole _) scM4_1 (Memref.isWhole_whole _) scM4_2 (Memref.isWhole_whole _) (iblk4 V c 0 t) (iblk4 V c 1 t)
    xs qs 4 t t.2 (read4_x V xs c hx t) (read4_q V qs c hq t) VO4_2 _ (by sl_kernel_rfl) y _ ?_ ?_ ?_ <;> blk_simp [idx4 t] <;> rfl

/-! Call 5. -/
theorem idx5 : ∀ t : Fin cfg5.N, win5_0.index t 0 = t ∧ win5_0.index t 1 = 0 ∧ win5_1.index t 0 = t ∧ win5_1.index t 1 = 0
    ∧ win5_2.index t 0 = t + 640 ∧ win5_2.index t 1 = 0 ∧ win5_2.index t 2 = 0 ∧ win5_3.index t 0 = t + 640 ∧ win5_3.index t 1 = 0 ∧ win5_3.index t 2 = 0 := by decide +kernel
theorem read5_x (hx : V c main_arg5 = xs 5) (t : Fin cfg5.N) (r : Fin 2048) (l : Fin 128) (h : (t : ℕ) * 2048 + r < 262144) :
    (iblk5 V c 0 t : IVec S2048x128 32) (ix2 r l) = xs 5 (ix2 ⟨(t : ℕ) * 2048 + r, h⟩ l) := by
  rw [← hx]; blk_ext [iblk5, idx5 t]
theorem read5_q (hq : V c main_arg13 = qs 5) (t : Fin cfg5.N) (u : Fin 8) (l : Fin 128) (h : (t : ℕ) * 8 + u < 1024) :
    (iblk5 V c 1 t : IVec S8x128 32) (ix2 u l) = qs 5 (ix2 ⟨(t : ℕ) * 8 + u, h⟩ l) := by
  rw [← hq]; blk_ext [iblk5, idx5 t]
theorem weights5 (hx : V c main_arg5 = xs 5) (hq : V c main_arg13 = qs 5) : (dat5 V c).arrAt 3 cfg5.N
    = fun i => if 5120 ≤ (i 0 : ℕ) ∧ (i 0 : ℕ) < 5120 + 1024 then weightsAll xs qs i else V c main_v5_1 i := by
  refine (dat5 V c).arrAt_eq_of_coversWhere 3 _ (fun β => 640 ≤ β 0 ∧ β 0 < 640 + 128) (by decide +kernel) (fun t hf y => ?_)
    (fun j => by blk_simp [Pipeline.Window.cell_apply]; omega)
  blk_simp
  rw [after5_3]
  dsimp only [outsAt5, out5_A_3]
  refine left_weights c (grid1.coords t) (ms5_0 t) (hs5_0 t) (ms5_1 t) (hs5_1 t) (ms5_2 t) (hs5_2 t) (ms5_3 t) (hs5_3 t) scM5_0 (Memref.isWhole_whole _) scM5_1 (Memref.isWhole_whole _) scM5_2 (Memref.isWhole_whole _) (iblk5 V c 0 t) (iblk5 V c 1 t)
    xs qs 5 t t.2 (read5_x V xs c hx t) (read5_q V qs c hq t) VO5_3 _ (by sl_kernel_rfl) y _ ?_ ?_ ?_ <;> blk_simp [idx5 t] <;> rfl
theorem pooled5 (hx : V c main_arg5 = xs 5) (hq : V c main_arg13 = qs 5) : (dat5 V c).arrAt 2 cfg5.N
    = fun i => if 5120 ≤ (i 0 : ℕ) ∧ (i 0 : ℕ) < 5120 + 1024 then pooledAll xs qs i else V c main_v5_0 i := by
  refine (dat5 V c).arrAt_eq_of_coversWhere 2 _ (fun β => 640 ≤ β 0 ∧ β 0 < 640 + 128) (by decide +kernel) (fun t hf y => ?_)
    (fun j => by blk_simp [Pipeline.Window.cell_apply]; omega)
  blk_simp
  rw [after5_2]
  dsimp only [outsAt5, out5_A_2]
  refine left_pooled c (grid1.coords t) (ms5_0 t) (hs5_0 t) (ms5_1 t) (hs5_1 t) (ms5_2 t) (hs5_2 t) (ms5_3 t) (hs5_3 t) scM5_0 (Memref.isWhole_whole _) scM5_1 (Memref.isWhole_whole _) scM5_2 (Memref.isWhole_whole _) (iblk5 V c 0 t) (iblk5 V c 1 t)
    xs qs 5 t t.2 (read5_x V xs c hx t) (read5_q V qs c hq t) VO5_2 _ (by sl_kernel_rfl) y _ ?_ ?_ ?_ <;> blk_simp [idx5 t] <;> rfl

/-! Call 6. -/
theorem idx6 : ∀ t : Fin cfg6.N, win6_0.index t 0 = t ∧ win6_0.index t 1 = 0 ∧ win6_1.index t 0 = t ∧ win6_1.index t 1 = 0
    ∧ win6_2.index t 0 = t + 768 ∧ win6_2.index t 1 = 0 ∧ win6_2.index t 2 = 0 ∧ win6_3.index t 0 = t + 768 ∧ win6_3.index t 1 = 0 ∧ win6_3.index t 2 = 0 := by decide +kernel
theorem read6_x (hx : V c main_arg6 = xs 6) (t : Fin cfg6.N) (r : Fin 2048) (l : Fin 128) (h : (t : ℕ) * 2048 + r < 262144) :
    (iblk6 V c 0 t : IVec S2048x128 32) (ix2 r l) = xs 6 (ix2 ⟨(t : ℕ) * 2048 + r, h⟩ l) := by
  rw [← hx]; blk_ext [iblk6, idx6 t]
theorem read6_q (hq : V c main_arg14 = qs 6) (t : Fin cfg6.N) (u : Fin 8) (l : Fin 128) (h : (t : ℕ) * 8 + u < 1024) :
    (iblk6 V c 1 t : IVec S8x128 32) (ix2 u l) = qs 6 (ix2 ⟨(t : ℕ) * 8 + u, h⟩ l) := by
  rw [← hq]; blk_ext [iblk6, idx6 t]
theorem weights6 (hx : V c main_arg6 = xs 6) (hq : V c main_arg14 = qs 6) : (dat6 V c).arrAt 3 cfg6.N
    = fun i => if 6144 ≤ (i 0 : ℕ) ∧ (i 0 : ℕ) < 6144 + 1024 then weightsAll xs qs i else V c main_v6_1 i := by
  refine (dat6 V c).arrAt_eq_of_coversWhere 3 _ (fun β => 768 ≤ β 0 ∧ β 0 < 768 + 128) (by decide +kernel) (fun t hf y => ?_)
    (fun j => by blk_simp [Pipeline.Window.cell_apply]; omega)
  blk_simp
  rw [after6_3]
  dsimp only [outsAt6, out6_A_3]
  refine left_weights c (grid1.coords t) (ms6_0 t) (hs6_0 t) (ms6_1 t) (hs6_1 t) (ms6_2 t) (hs6_2 t) (ms6_3 t) (hs6_3 t) scM6_0 (Memref.isWhole_whole _) scM6_1 (Memref.isWhole_whole _) scM6_2 (Memref.isWhole_whole _) (iblk6 V c 0 t) (iblk6 V c 1 t)
    xs qs 6 t t.2 (read6_x V xs c hx t) (read6_q V qs c hq t) VO6_3 _ (by sl_kernel_rfl) y _ ?_ ?_ ?_ <;> blk_simp [idx6 t] <;> rfl
theorem pooled6 (hx : V c main_arg6 = xs 6) (hq : V c main_arg14 = qs 6) : (dat6 V c).arrAt 2 cfg6.N
    = fun i => if 6144 ≤ (i 0 : ℕ) ∧ (i 0 : ℕ) < 6144 + 1024 then pooledAll xs qs i else V c main_v6_0 i := by
  refine (dat6 V c).arrAt_eq_of_coversWhere 2 _ (fun β => 768 ≤ β 0 ∧ β 0 < 768 + 128) (by decide +kernel) (fun t hf y => ?_)
    (fun j => by blk_simp [Pipeline.Window.cell_apply]; omega)
  blk_simp
  rw [after6_2]
  dsimp only [outsAt6, out6_A_2]
  refine left_pooled c (grid1.coords t) (ms6_0 t) (hs6_0 t) (ms6_1 t) (hs6_1 t) (ms6_2 t) (hs6_2 t) (ms6_3 t) (hs6_3 t) scM6_0 (Memref.isWhole_whole _) scM6_1 (Memref.isWhole_whole _) scM6_2 (Memref.isWhole_whole _) (iblk6 V c 0 t) (iblk6 V c 1 t)
    xs qs 6 t t.2 (read6_x V xs c hx t) (read6_q V qs c hq t) VO6_2 _ (by sl_kernel_rfl) y _ ?_ ?_ ?_ <;> blk_simp [idx6 t] <;> rfl

/-! Call 7. -/
theorem idx7 : ∀ t : Fin cfg7.N, win7_0.index t 0 = t ∧ win7_0.index t 1 = 0 ∧ win7_1.index t 0 = t ∧ win7_1.index t 1 = 0
    ∧ win7_2.index t 0 = t + 896 ∧ win7_2.index t 1 = 0 ∧ win7_2.index t 2 = 0 ∧ win7_3.index t 0 = t + 896 ∧ win7_3.index t 1 = 0 ∧ win7_3.index t 2 = 0 := by decide +kernel
theorem read7_x (hx : V c main_arg7 = xs 7) (t : Fin cfg7.N) (r : Fin 2048) (l : Fin 128) (h : (t : ℕ) * 2048 + r < 262144) :
    (iblk7 V c 0 t : IVec S2048x128 32) (ix2 r l) = xs 7 (ix2 ⟨(t : ℕ) * 2048 + r, h⟩ l) := by
  rw [← hx]; blk_ext [iblk7, idx7 t]
theorem read7_q (hq : V c main_arg15 = qs 7) (t : Fin cfg7.N) (u : Fin 8) (l : Fin 128) (h : (t : ℕ) * 8 + u < 1024) :
    (iblk7 V c 1 t : IVec S8x128 32) (ix2 u l) = qs 7 (ix2 ⟨(t : ℕ) * 8 + u, h⟩ l) := by
  rw [← hq]; blk_ext [iblk7, idx7 t]
theorem weights7 (hx : V c main_arg7 = xs 7) (hq : V c main_arg15 = qs 7) : (dat7 V c).arrAt 3 cfg7.N
    = fun i => if 7168 ≤ (i 0 : ℕ) ∧ (i 0 : ℕ) < 7168 + 1024 then weightsAll xs qs i else V c main_v7_1 i := by
  refine (dat7 V c).arrAt_eq_of_coversWhere 3 _ (fun β => 896 ≤ β 0 ∧ β 0 < 896 + 128) (by decide +kernel) (fun t hf y => ?_)
    (fun j => by blk_simp [Pipeline.Window.cell_apply]; omega)
  blk_simp
  rw [after7_3]
  dsimp only [outsAt7, out7_A_3]
  refine left_weights c (grid1.coords t) (ms7_0 t) (hs7_0 t) (ms7_1 t) (hs7_1 t) (ms7_2 t) (hs7_2 t) (ms7_3 t) (hs7_3 t) scM7_0 (Memref.isWhole_whole _) scM7_1 (Memref.isWhole_whole _) scM7_2 (Memref.isWhole_whole _) (iblk7 V c 0 t) (iblk7 V c 1 t)
    xs qs 7 t t.2 (read7_x V xs c hx t) (read7_q V qs c hq t) VO7_3 _ (by sl_kernel_rfl) y _ ?_ ?_ ?_ <;> blk_simp [idx7 t] <;> rfl
theorem pooled7 (hx : V c main_arg7 = xs 7) (hq : V c main_arg15 = qs 7) : (dat7 V c).arrAt 2 cfg7.N
    = fun i => if 7168 ≤ (i 0 : ℕ) ∧ (i 0 : ℕ) < 7168 + 1024 then pooledAll xs qs i else V c main_v7_0 i := by
  refine (dat7 V c).arrAt_eq_of_coversWhere 2 _ (fun β => 896 ≤ β 0 ∧ β 0 < 896 + 128) (by decide +kernel) (fun t hf y => ?_)
    (fun j => by blk_simp [Pipeline.Window.cell_apply]; omega)
  blk_simp
  rw [after7_2]
  dsimp only [outsAt7, out7_A_2]
  refine left_pooled c (grid1.coords t) (ms7_0 t) (hs7_0 t) (ms7_1 t) (hs7_1 t) (ms7_2 t) (hs7_2 t) (ms7_3 t) (hs7_3 t) scM7_0 (Memref.isWhole_whole _) scM7_1 (Memref.isWhole_whole _) scM7_2 (Memref.isWhole_whole _) (iblk7 V c 0 t) (iblk7 V c 1 t)
    xs qs 7 t t.2 (read7_x V xs c hx t) (read7_q V qs c hq t) VO7_2 _ (by sl_kernel_rfl) y _ ?_ ?_ ?_ <;> blk_simp [idx7 t] <;> rfl
end
end Cert.KernelIdeal.Blk
-- ==== Proof.Fold.lean ====
module

public import proofs.«01_k».proof.Proof.Calls

@[expose] public section

set_option maxRecDepth 16384

noncomputable section
namespace Cert.KernelIdeal.Blk
open Cert.KernelIdeal Cert.KernelIdeal.Gen
open Idealize.ShloMosaic Idealize.ShloMosaic.TcCoe Idealize.SL.Sem Idealize.ShloMosaic.Tactic

/-! The result arrays after each call: right on the rows of the calls run so far. -/

variable (m : (ℓ : Loc nD τ sig) → Buf (Elt Ideal) ℓ) (ρ : Dev nD → PrngReg) (c : Dev nD)

/-- The eight arguments of gathered words. -/
def argX : Fin 8 → IVec S262144x128 32 := ![m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)]
/-- The eight arguments of target words. -/
def argQ : Fin 8 → IVec S1024x128 32 := ![m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)]

theorem weights_rows0 (i : S8192x4x256.Idx) (hi : (i 0 : ℕ) < 0 + 1024) : W1 m ρ c main_v0_1 i = weightsAll (argX m c) (argQ m c) i :=
  rows_step (fun i : S8192x4x256.Idx => (i 0 : ℕ)) 0 _ _ _ _ ((W1_arr m ρ c 3).trans (weights0 (V0 m ρ) (argX m c) (argQ m c) c (W0_args m ρ c main_arg0 (by decide)) (W0_args m ρ c main_arg8 (by decide))))
    rfl (fun i hi => absurd hi (Nat.not_lt_zero _)) i hi
theorem pooled_rows0 (i : S8192x4x96.Idx) (hi : (i 0 : ℕ) < 0 + 1024) : W1 m ρ c main_v0_0 i = pooledAll (argX m c) (argQ m c) i :=
  rows_step (fun i : S8192x4x96.Idx => (i 0 : ℕ)) 0 _ _ _ _ ((W1_arr m ρ c 2).trans (pooled0 (V0 m ρ) (argX m c) (argQ m c) c (W0_args m ρ c main_arg0 (by decide)) (W0_args m ρ c main_arg8 (by decide))))
    rfl (fun i hi => absurd hi (Nat.not_lt_zero _)) i hi
theorem copied1_1 : V2 m ρ c main_v1_1 = W1 m ρ c main_v0_1 := by
  show StableHlo.after hostOps1 (W1 m ρ c) main_v1_1 = _
  after_results
  rfl
theorem weights_rows1 (i : S8192x4x256.Idx) (hi : (i 0 : ℕ) < 1024 + 1024) : W3 m ρ c main_v1_1 i = weightsAll (argX m c) (argQ m c) i :=
  rows_step (fun i : S8192x4x256.Idx => (i 0 : ℕ)) 1024 _ _ _ _ ((W3_arr m ρ c 3).trans (weights1 (V2 m ρ) (argX m c) (argQ m c) c (W2_args m ρ c main_arg1 (by decide)) (W2_args m ρ c main_arg9 (by decide))))
    (copied1_1 m ρ c) (weights_rows0 m ρ c) i hi
theorem copied1_0 : V2 m ρ c main_v1_0 = W1 m ρ c main_v0_0 := by
  show StableHlo.after hostOps1 (W1 m ρ c) main_v1_0 = _
  after_results
  rfl
theorem pooled_rows1 (i : S8192x4x96.Idx) (hi : (i 0 : ℕ) < 1024 + 1024) : W3 m ρ c main_v1_0 i = pooledAll (argX m c) (argQ m c) i :=
  rows_step (fun i : S8192x4x96.Idx => (i 0 : ℕ)) 1024 _ _ _ _ ((W3_arr m ρ c 2).trans (pooled1 (V2 m ρ) (argX m c) (argQ m c) c (W2_args m ρ c main_arg1 (by decide)) (W2_args m ρ c main_arg9 (by decide))))
    (copied1_0 m ρ c) (pooled_rows0 m ρ c) i hi
theorem copied2_1 : V4 m ρ c main_v2_1 = W3 m ρ c main_v1_1 := by
  show StableHlo.after hostOps2 (W3 m ρ c) main_v2_1 = _
  after_results
  rfl
theorem weights_rows2 (i : S8192x4x256.Idx) (hi : (i 0 : ℕ) < 2048 + 1024) : W5 m ρ c main_v2_1 i = weightsAll (argX m c) (argQ m c) i :=
  rows_step (fun i : S8192x4x256.Idx => (i 0 : ℕ)) 2048 _ _ _ _ ((W5_arr m ρ c 3).trans (weights2 (V4 m ρ) (argX m c) (argQ m c) c (W4_args m ρ c main_arg2 (by decide)) (W4_args m ρ c main_arg10 (by decide))))
    (copied2_1 m ρ c) (weights_rows1 m ρ c) i hi
theorem copied2_0 : V4 m ρ c main_v2_0 = W3 m ρ c main_v1_0 := by
  show StableHlo.after hostOps2 (W3 m ρ c) main_v2_0 = _
  after_results
  rfl
theorem pooled_rows2 (i : S8192x4x96.Idx) (hi : (i 0 : ℕ) < 2048 + 1024) : W5 m ρ c main_v2_0 i = pooledAll (argX m c) (argQ m c) i :=
  rows_step (fun i : S8192x4x96.Idx => (i 0 : ℕ)) 2048 _ _ _ _ ((W5_arr m ρ c 2).trans (pooled2 (V4 m ρ) (argX m c) (argQ m c) c (W4_args m ρ c main_arg2 (by decide)) (W4_args m ρ c main_arg10 (by decide))))
    (copied2_0 m ρ c) (pooled_rows1 m ρ c) i hi
theorem copied3_1 : V6 m ρ c main_v3_1 = W5 m ρ c main_v2_1 := by
  show StableHlo.after hostOps3 (W5 m ρ c) main_v3_1 = _
  after_results
  rfl
theorem weights_rows3 (i : S8192x4x256.Idx) (hi : (i 0 : ℕ) < 3072 + 1024) : W7 m ρ c main_v3_1 i = weightsAll (argX m c) (argQ m c) i :=
  rows_step (fun i : S8192x4x256.Idx => (i 0 : ℕ)) 3072 _ _ _ _ ((W7_arr m ρ c 3).trans (weights3 (V6 m ρ) (argX m c) (argQ m c) c (W6_args m ρ c main_arg3 (by decide)) (W6_args m ρ c main_arg11 (by decide))))
    (copied3_1 m ρ c) (weights_rows2 m ρ c) i hi
theorem copied3_0 : V6 m ρ c main_v3_0 = W5 m ρ c main_v2_0 := by
  show StableHlo.after hostOps3 (W5 m ρ c) main_v3_0 = _
  after_results
  rfl
theorem pooled_rows3 (i : S8192x4x96.Idx) (hi : (i 0 : ℕ) < 3072 + 1024) : W7 m ρ c main_v3_0 i = pooledAll (argX m c) (argQ m c) i :=
  rows_step (fun i : S8192x4x96.Idx => (i 0 : ℕ)) 3072 _ _ _ _ ((W7_arr m ρ c 2).trans (pooled3 (V6 m ρ) (argX m c) (argQ m c) c (W6_args m ρ c main_arg3 (by decide)) (W6_args m ρ c main_arg11 (by decide))))
    (copied3_0 m ρ c) (pooled_rows2 m ρ c) i hi
theorem copied4_1 : V8 m ρ c main_v4_1 = W7 m ρ c main_v3_1 := by
  show StableHlo.after hostOps4 (W7 m ρ c) main_v4_1 = _
  after_results
  rfl
theorem weights_rows4 (i : S8192x4x256.Idx) (hi : (i 0 : ℕ) < 4096 + 1024) : W9 m ρ c main_v4_1 i = weightsAll (argX m c) (argQ m c) i :=
  rows_step (fun i : S8192x4x256.Idx => (i 0 : ℕ)) 4096 _ _ _ _ ((W9_arr m ρ c 3).trans (weights4 (V8 m ρ) (argX m c) (argQ m c) c (W8_args m ρ c main_arg4 (by decide)) (W8_args m ρ c main_arg12 (by decide))))
    (copied4_1 m ρ c) (weights_rows3 m ρ c) i hi
theorem copied4_0 : V8 m ρ c main_v4_0 = W7 m ρ c main_v3_0 := by
  show StableHlo.after hostOps4 (W7 m ρ c) main_v4_0 = _
  after_results
  rfl
theorem pooled_rows4 (i : S8192x4x96.Idx) (hi : (i 0 : ℕ) < 4096 + 1024) : W9 m ρ c main_v4_0 i = pooledAll (argX m c) (argQ m c) i :=
  rows_step (fun i : S8192x4x96.Idx => (i 0 : ℕ)) 4096 _ _ _ _ ((W9_arr m ρ c 2).trans (pooled4 (V8 m ρ) (argX m c) (argQ m c) c (W8_args m ρ c main_arg4 (by decide)) (W8_args m ρ c main_arg12 (by decide))))
    (copied4_0 m ρ c) (pooled_rows3 m ρ c) i hi
theorem copied5_1 : V10 m ρ c main_v5_1 = W9 m ρ c main_v4_1 := by
  show StableHlo.after hostOps5 (W9 m ρ c) main_v5_1 = _
  after_results
  rfl
theorem weights_rows5 (i : S8192x4x256.Idx) (hi : (i 0 : ℕ) < 5120 + 1024) : W11 m ρ c main_v5_1 i = weightsAll (argX m c) (argQ m c) i :=
  rows_step (fun i : S8192x4x256.Idx => (i 0 : ℕ)) 5120 _ _ _ _ ((W11_arr m ρ c 3).trans (weights5 (V10 m ρ) (argX m c) (argQ m c) c (W10_args m ρ c main_arg5 (by decide)) (W10_args m ρ c main_arg13 (by decide))))
    (copied5_1 m ρ c) (weights_rows4 m ρ c) i hi
theorem copied5_0 : V10 m ρ c main_v5_0 = W9 m ρ c main_v4_0 := by
  show StableHlo.after hostOps5 (W9 m ρ c) main_v5_0 = _
  after_results
  rfl
theorem pooled_rows5 (i : S8192x4x96.Idx) (hi : (i 0 : ℕ) < 5120 + 1024) : W11 m ρ c main_v5_0 i = pooledAll (argX m c) (argQ m c) i :=
  rows_step (fun i : S8192x4x96.Idx => (i 0 : ℕ)) 5120 _ _ _ _ ((W11_arr m ρ c 2).trans (pooled5 (V10 m ρ) (argX m c) (argQ m c) c (W10_args m ρ c main_arg5 (by decide)) (W10_args m ρ c main_arg13 (by decide))))
    (copied5_0 m ρ c) (pooled_rows4 m ρ c) i hi
theorem copied6_1 : V12 m ρ c main_v6_1 = W11 m ρ c main_v5_1 := by
  show StableHlo.after hostOps6 (W11 m ρ c) main_v6_1 = _
  after_results
  rfl
theorem weights_rows6 (i : S8192x4x256.Idx) (hi : (i 0 : ℕ) < 6144 + 1024) : W13 m ρ c main_v6_1 i = weightsAll (argX m c) (argQ m c) i :=
  rows_step (fun i : S8192x4x256.Idx => (i 0 : ℕ)) 6144 _ _ _ _ ((W13_arr m ρ c 3).trans (weights6 (V12 m ρ) (argX m c) (argQ m c) c (W12_args m ρ c main_arg6 (by decide)) (W12_args m ρ c main_arg14 (by decide))))
    (copied6_1 m ρ c) (weights_rows5 m ρ c) i hi
theorem copied6_0 : V12 m ρ c main_v6_0 = W11 m ρ c main_v5_0 := by
  show StableHlo.after hostOps6 (W11 m ρ c) main_v6_0 = _
  after_results
  rfl
theorem pooled_rows6 (i : S8192x4x96.Idx) (hi : (i 0 : ℕ) < 6144 + 1024) : W13 m ρ c main_v6_0 i = pooledAll (argX m c) (argQ m c) i :=
  rows_step (fun i : S8192x4x96.Idx => (i 0 : ℕ)) 6144 _ _ _ _ ((W13_arr m ρ c 2).trans (pooled6 (V12 m ρ) (argX m c) (argQ m c) c (W12_args m ρ c main_arg6 (by decide)) (W12_args m ρ c main_arg14 (by decide))))
    (copied6_0 m ρ c) (pooled_rows5 m ρ c) i hi
theorem copied7_1 : V14 m ρ c main_v7_1 = W13 m ρ c main_v6_1 := by
  show StableHlo.after hostOps7 (W13 m ρ c) main_v7_1 = _
  after_results
  rfl
theorem weights_rows7 (i : S8192x4x256.Idx) (hi : (i 0 : ℕ) < 7168 + 1024) : W15 m ρ c main_v7_1 i = weightsAll (argX m c) (argQ m c) i :=
  rows_step (fun i : S8192x4x256.Idx => (i 0 : ℕ)) 7168 _ _ _ _ ((W15_arr m ρ c 3).trans (weights7 (V14 m ρ) (argX m c) (argQ m c) c (W14_args m ρ c main_arg7 (by decide)) (W14_args m ρ c main_arg15 (by decide))))
    (copied7_1 m ρ c) (weights_rows6 m ρ c) i hi
theorem copied7_0 : V14 m ρ c main_v7_0 = W13 m ρ c main_v6_0 := by
  show StableHlo.after hostOps7 (W13 m ρ c) main_v7_0 = _
  after_results
  rfl
theorem pooled_rows7 (i : S8192x4x96.Idx) (hi : (i 0 : ℕ) < 7168 + 1024) : W15 m ρ c main_v7_0 i = pooledAll (argX m c) (argQ m c) i :=
  rows_step (fun i : S8192x4x96.Idx => (i 0 : ℕ)) 7168 _ _ _ _ ((W15_arr m ρ c 2).trans (pooled7 (V14 m ρ) (argX m c) (argQ m c) c (W14_args m ρ c main_arg7 (by decide)) (W14_args m ρ c main_arg15 (by decide))))
    (copied7_0 m ρ c) (pooled_rows6 m ρ c) i hi

end Cert.KernelIdeal.Blk
-- ==== Proof.RunValue.lean ====
module

public import proofs.«01_k».proof.Proof.Fold

@[expose] public section

set_option maxRecDepth 16384

noncomputable section
namespace Cert.KernelIdeal.Blk
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the eight calls: the two results are the whole arrays of the arguments, and the arguments end unchanged. -/
theorem run : θ_run defs (onTc (τ := τ) (main (F := Ideal))) ⟨m, fun _ => 0, ρ⟩ (fun r => ∀ c : Dev nD,
      r.2.mem ((c.tc : Thread nD τ).loc main_v7_0) = pooledAll (argX m c) (argQ m c)
      ∧ r.2.mem ((c.tc : Thread nD τ).loc main_v7_1) = weightsAll (argX m c) (argQ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz c =>
      ⟨(h c _ (mem_uc main_v7_0 (by decide))).trans (funext fun i => pooled_rows7 m ρ c i (i 0).2),
       (h c _ (mem_uc main_v7_1 (by decide))).trans (funext fun i => weights_rows7 m ρ c i (i 0).2),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c)⟩)

end Cert.KernelIdeal.Blk
-- ==== Proof.RefTerm.lean ====
module

public import proofs.«01_k».proof.Proof.Gen.ReferenceIdeal.Run
public import Idealize.ShloMosaic.Lib.Pointwise

@[expose] public section

set_option maxRecDepth 16384

noncomputable section

namespace Cert.ReferenceIdeal.Term

open Cert.ReferenceIdeal Cert.ReferenceIdeal.Gen Cert.ReferenceIdeal.Value
open Idealize.ShloMosaic Idealize.ShloMosaic.TcCoe Idealize.SL.Sem

/-! The reference's composed terms, as functions of the two stacked argument arrays `K` (the gathered table
rows) and `Q` (the target rows), one named stage per definition. -/

/-- The key rows as (user, kept position, target, word). -/
def keys (K : IVec S2097152x128 32) : IVec S8192x256x4x32 32 := shapeCast _ K shapeCasts_S2097152x128_S8192x256x4x32
/-- The target rows as (user, target, word). -/
def query (Q : IVec S8192x128 32) : IVec S8192x4x32 32 := shapeCast _ Q shapeCasts_S8192x128_S8192x4x32
/-- The key codes. -/
def kCodes (K : IVec S2097152x128 32) : FVec Ideal S8192x256x4x96 .bf16 :=
  truncf .bf16 (sitofp .f32 (extsi 32 (shapeCast S8192x256x4x96 (Host.bitcastConvertNarrow S8192x256x4x24x4 8
    (extractStridedSlice S8192x256x4x24 ![0, 0, 0, 0] (keys K) slices_S8192x256x4x32_S8192x256x4x24_0_0_0_0)
    splits_S8192x256x4x24_w32_S8192x256x4x24x4_w8) shapeCasts_S8192x256x4x24x4_S8192x256x4x96) natLt_8_32)) bitsLt_bf16_f32
/-- The key scales, as (user, target, kept position). -/
def kScale (K : IVec S2097152x128 32) : FVec Ideal S8192x4x256 .f32 :=
  transpose S8192x4x256 [0, 2, 1] (bitcastToFloat (F := Ideal) .f32 (xori
    (shapeCast S8192x256x4 (extractStridedSlice S8192x256x4x1 ![0, 0, 0, 24] (keys K) slices_S8192x256x4x32_S8192x256x4x1_0_0_0_24) shapeCasts_S8192x256x4x1_S8192x256x4)
    (broadcastInDim S8192x256x4 ![] bcast_S_S8192x256x4 (constantI S_ 32 2155905152#32)))) transposes_S8192x256x4_S8192x4x256_0_2_1
/-- The target codes. -/
def qCodes (Q : IVec S8192x128 32) : FVec Ideal S8192x4x96 .bf16 :=
  truncf .bf16 (sitofp .f32 (extsi 32 (shapeCast S8192x4x96 (Host.bitcastConvertNarrow S8192x4x24x4 8
    (extractStridedSlice S8192x4x24 ![0, 0, 0] (query Q) slices_S8192x4x32_S8192x4x24_0_0_0)
    splits_S8192x4x24_w32_S8192x4x24x4_w8) shapeCasts_S8192x4x24x4_S8192x4x96) natLt_8_32)) bitsLt_bf16_f32
/-- The target scales. -/
def qScale (Q : IVec S8192x128 32) : FVec Ideal S8192x4 .f32 :=
  bitcastToFloat (F := Ideal) .f32 (xori
    (shapeCast S8192x4 (extractStridedSlice S8192x4x1 ![0, 0, 24] (query Q) slices_S8192x4x32_S8192x4x1_0_0_24) shapeCasts_S8192x4x1_S8192x4)
    (broadcastInDim S8192x4 ![] bcast_S_S8192x4 (constantI S_ 32 2155905152#32)))
/-- The match counts. -/
def qCount (Q : IVec S8192x128 32) : IVec S8192x4 32 :=
  shapeCast S8192x4 (extractStridedSlice S8192x4x1 ![0, 0, 25] (query Q) slices_S8192x4x32_S8192x4x1_0_0_25) shapeCasts_S8192x4x1_S8192x4
/-- Which pairs have no match. -/
def noMatch (cnt : IVec S8192x4 32) : IVec S8192x4x256 1 :=
  broadcastInDim S8192x4x256 ![0, 1, 2] bcast_S8192x4x1_S8192x4x256_0_1_2
    (broadcastInDim S8192x4x1 ![0, 1] bcast_S8192x4_S8192x4x1_0_1 (cmpi .eq cnt (broadcastInDim S8192x4 ![] bcast_S_S8192x4 (constantI S_ 32 0#32))))
/-- Which kept positions lie before the count. -/
def valid (cnt : IVec S8192x4 32) : IVec S8192x4x256 1 :=
  cmpi .slt
      (broadcastInDim S8192x4x256 ![0, 1, 2] bcast_S1x1x256_S8192x4x256_0_1_2 (broadcastInDim S1x1x256 ![2] bcast_S256_S1x1x256_2 (iotaInDim S256 32 0)))
      (broadcastInDim S8192x4x256 ![0, 1, 2] bcast_S8192x4x1_S8192x4x256_0_1_2 (broadcastInDim S8192x4x1 ![0, 1] bcast_S8192x4_S8192x4x1_0_1 cnt))
/-- The raw scores. -/
def raw (qc : FVec Ideal S8192x4x96 .bf16) (kc : FVec Ideal S8192x256x4x96 .bf16) : FVec Ideal S8192x4x256 .f32 :=
  Host.dotGeneral dot_S8192x4x96_S8192x256x4x96_S8192x4x256_2_3_n_1_01_02 none qc kc
/-- The scores, with `-inf` past the count and 0 where nothing matches. -/
def score (cnt : IVec S8192x4 32) (qs : FVec Ideal S8192x4 .f32) (r ks : FVec Ideal S8192x4x256 .f32) : FVec Ideal S8192x4x256 .f32 :=
  select (noMatch cnt) (broadcastInDim S8192x4x256 ![] bcast_S_S8192x4x256 (constant S_ .f32 0x00000000#32))
    (select (valid cnt)
      (mulf (mulf r
        (broadcastInDim S8192x4x256 ![0, 1, 2] bcast_S8192x4x1_S8192x4x256_0_1_2
          (mulf (broadcastInDim S8192x4x1 ![0, 1] bcast_S8192x4_S8192x4x1_0_1 qs) (broadcastInDim S8192x4x1 ![] bcast_S_S8192x4x1 (constant S_ .f32 0x3DD105EC#32)))))
        ks)
      (broadcastInDim S8192x4x256 ![] bcast_S_S8192x4x256 (constant S_ .f32 0xFF800000#32)))
/-- The largest score of each pair. -/
def top (s : FVec Ideal S8192x4x256 .f32) : FVec Ideal S8192x4 .f32 :=
  maximumf (broadcastInDim S8192x4 ![] bcast_S_S8192x4 (constant S_ .f32 0xFF800000#32))
      (Host.reduce FloatOps.maximumf s (constant S_ .f32 0xFF800000#32) reducesTo_S8192x4x256_S8192x4_d2 h_S_)
/-- The exponentials of the scores less their maximum. -/
def expo (s : FVec Ideal S8192x4x256 .f32) (t : FVec Ideal S8192x4 .f32) : FVec Ideal S8192x4x256 .f32 :=
  Host.exp (subf s (broadcastInDim S8192x4x256 ![0, 1, 2] bcast_S8192x4x1_S8192x4x256_0_1_2 (broadcastInDim S8192x4x1 ![0, 1] bcast_S8192x4_S8192x4x1_0_1 t)))
/-- The sum of the exponentials. -/
def total (e : FVec Ideal S8192x4x256 .f32) : FVec Ideal S8192x4 .f32 :=
  Host.reduceAdd e (constant S_ .f32 0x00000000#32) reducesTo_S8192x4x256_S8192x4_d2 h_S_
/-- The weights. -/
def weightsOf (cnt : IVec S8192x4 32) (e : FVec Ideal S8192x4x256 .f32) (t : FVec Ideal S8192x4 .f32) : FVec Ideal S8192x4x256 .f32 :=
  select (noMatch cnt) (broadcastInDim S8192x4x256 ![] bcast_S_S8192x4x256 (constant S_ .f32 0x00000000#32))
    (Host.divf e (broadcastInDim S8192x4x256 ![0, 1, 2] bcast_S8192x4x1_S8192x4x256_0_1_2 (broadcastInDim S8192x4x1 ![0, 1] bcast_S8192x4_S8192x4x1_0_1 t)))
/-- The weights times the key scales, 0 past the count. -/
def scaled (cnt : IVec S8192x4 32) (w ks : FVec Ideal S8192x4x256 .f32) : FVec Ideal S8192x4x256 .f32 :=
  select (valid cnt) (mulf w ks) (broadcastInDim S8192x4x256 ![] bcast_S_S8192x4x256 (constant S_ .f32 0x00000000#32))
/-- The pooled values. -/
def pooledOf (ws : FVec Ideal S8192x4x256 .f32) (kc : FVec Ideal S8192x256x4x96 .bf16) : FVec Ideal S8192x4x96 .bf16 :=
  truncf .bf16 (Host.dotGeneral dot_S8192x4x256_S8192x256x4x96_S8192x4x96_2_1_n_3_01_02 none
    (truncf .bf16 ws bitsLt_bf16_f32) kc) bitsLt_bf16_f32

/-- The scores of the stacked arguments. -/
def scores (K : IVec S2097152x128 32) (Q : IVec S8192x128 32) : FVec Ideal S8192x4x256 .f32 :=
  score (qCount Q) (qScale Q) (raw (qCodes Q) (kCodes K)) (kScale K)
/-- The exponentials of the stacked arguments. -/
def expos (K : IVec S2097152x128 32) (Q : IVec S8192x128 32) : FVec Ideal S8192x4x256 .f32 :=
  expo (scores K Q) (top (scores K Q))
/-- The weights of the stacked arguments. -/
def weights (K : IVec S2097152x128 32) (Q : IVec S8192x128 32) : FVec Ideal S8192x4x256 .f32 :=
  weightsOf (qCount Q) (expos K Q) (total (expos K Q))
/-- The pooled values of the stacked arguments. -/
def pooled (K : IVec S2097152x128 32) (Q : IVec S8192x128 32) : FVec Ideal S8192x4x96 .bf16 :=
  pooledOf (scaled (qCount Q) (weights K Q) (kScale K)) (kCodes K)

/-- The eight stacked key arrays. -/
def stackK (x0 x1 x2 x3 x4 x5 x6 x7 : IVec S262144x128 32) : IVec S2097152x128 32 :=
  concatenate S2097152x128 0 [⟨S262144x128, x0⟩, ⟨S262144x128, x1⟩, ⟨S262144x128, x2⟩, ⟨S262144x128, x3⟩, ⟨S262144x128, x4⟩, ⟨S262144x128, x5⟩, ⟨S262144x128, x6⟩, ⟨S262144x128, x7⟩]
    concatenates_S262144x128_S262144x128_S262144x128_S262144x128_S262144x128_S262144x128_S262144x128_S262144x128_S2097152x128_d0
/-- The eight stacked target arrays. -/
def stackQ (x0 x1 x2 x3 x4 x5 x6 x7 : IVec S1024x128 32) : IVec S8192x128 32 :=
  concatenate S8192x128 0 [⟨S1024x128, x0⟩, ⟨S1024x128, x1⟩, ⟨S1024x128, x2⟩, ⟨S1024x128, x3⟩, ⟨S1024x128, x4⟩, ⟨S1024x128, x5⟩, ⟨S1024x128, x6⟩, ⟨S1024x128, x7⟩]
    concatenates_S1024x128_S1024x128_S1024x128_S1024x128_S1024x128_S1024x128_S1024x128_S1024x128_S8192x128_d0

variable (m : (ℓ : Loc nD τ sig) → Buf (Elt Ideal) ℓ) (c : Dev nD)

abbrev argK : IVec S2097152x128 32 := stackK (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
abbrev argQ : IVec S8192x128 32 := stackQ (m ((c.tc : Thread nD τ).loc main_arg8)) (m ((c.tc : Thread nD τ).loc main_arg9))
  (m ((c.tc : Thread nD τ).loc main_arg10)) (m ((c.tc : Thread nD τ).loc main_arg11)) (m ((c.tc : Thread nD τ).loc main_arg12))
  (m ((c.tc : Thread nD τ).loc main_arg13)) (m ((c.tc : Thread nD τ).loc main_arg14)) (m ((c.tc : Thread nD τ).loc main_arg15))

/-- The run's second result is the weights of the stacked arguments. -/
theorem res_weights : (res_out1 m c : FVec Ideal S8192x4x256 .f32) = weights (argK m c) (argQ m c) := by
  unfold res_out1 res_main_v58; rfl
/-- The run's first result is the pooled values of the stacked arguments. -/
theorem res_pooled : (res_out0 m c : FVec Ideal S8192x4x96 .bf16) = pooled (argK m c) (argQ m c) := by
  unfold res_out0 res_main_v63; rfl

end Cert.ReferenceIdeal.Term

end
-- ==== Proof.RefIdx.lean ====
module

public import proofs.«01_k».proof.Proof.RefTerm
public import proofs.«01_k».proof.Proof.SpecWord
public import Idealize.ShloMosaic.Lib.BitcastConvert
public import Idealize.ShloMosaic.Lib.KernelVsHost

@[expose] public section

set_option maxRecDepth 16384

noncomputable section

namespace Cert.ReferenceIdeal.Term

open Cert.ReferenceIdeal Cert.ReferenceIdeal.Gen
open Idealize.ShloMosaic Idealize.ShloMosaic.TcCoe

/-! The reference's stages at an index. -/

section stages
variable (K : IVec S2097152x128 32) (Q : IVec S8192x128 32) (cnt : IVec S8192x4 32)
  (qs tp tot : FVec Ideal S8192x4 .f32) (r ks s e w : FVec Ideal S8192x4x256 .f32)
  (qc : FVec Ideal S8192x4x96 .bf16) (kc : FVec Ideal S8192x256x4x96 .bf16)
  (b : Fin 8192) (t : Fin 4) (k : Fin 256) (d : Fin 96)

/-- User `b`'s target words. -/
def qRow : Fin 128 → BitVec 32 := fun l => Q (ix2 b l)
/-- User `b`'s gathered words. -/
def kRow : Fin 256 → Fin 128 → BitVec 32 := fun k l => K (ix2 ⟨b * 256 + k, by omega⟩ l)

theorem code_read {N : ℕ} (A : IVec ⟨2, ![N, 128]⟩ 32) {i i' : Fin N} {l l' : Fin 128} (m n : ℕ) (hi : i = i') (hm : m = n) (hl : (l : ℕ) = l') :
    (FloatOps.sitofp (F := Ideal) FTy.f32 (BitVec.signExtend 32 (BitVec.extractLsb' m 8 (A (ix2 i l)))) : EReal)
      = (((BitVec.extractLsb' n 8 (A (ix2 i' l'))).toInt : ℝ) : EReal) := by
  obtain rfl := hi
  obtain rfl := hm
  obtain rfl := Fin.ext hl
  show (((BitVec.signExtend 32 _).toInt : ℝ) : EReal) = _
  rw [BitVec.toInt_signExtend_of_le (by decide)]
theorem scale_read {N : ℕ} (A : IVec ⟨2, ![N, 128]⟩ 32) {i i' : Fin N} {l l' : Fin 128} (hi : i = i') (hl : (l : ℕ) = l') :
    Ideal.ofBits FTy.f32 (IntOp.xori (A (ix2 i l)) 2155905152#32) = Spec.scaleAt (A (ix2 i' l')) := by
  obtain rfl := hi
  obtain rfl := Fin.ext hl
  rfl
theorem kCodes_at : kCodes K (ix4 b k t d) = Spec.codeAt (d % 4) (kRow K b k (Spec.atCode t d)) := by
  rw [Spec.codeAt_eq _ (Nat.mod_lt _ (by decide))]
  unfold kCodes keys
  pointwise [Host.bitcastConvertNarrow_apply]
  exact code_read K _ _ rfl (by omega) (show (t : ℕ) * 32 + d / 4 = 32 * t + d / 4 by omega)
theorem qCodes_at : qCodes Q (ix3 b t d) = Spec.codeAt (d % 4) (qRow Q b (Spec.atCode t d)) := by
  rw [Spec.codeAt_eq _ (Nat.mod_lt _ (by decide))]
  unfold qCodes query
  pointwise [Host.bitcastConvertNarrow_apply]
  exact code_read Q _ _ rfl (by omega) (show (t : ℕ) * 32 + d / 4 = 32 * t + d / 4 by omega)
theorem kScale_at : kScale K (ix3 b t k) = Spec.keyScale (kRow K b) t k := by
  unfold kScale keys
  pointwise
  exact scale_read K rfl (show (t : ℕ) * 32 + 24 = 32 * t + 24 by omega)
theorem qScale_at : qScale Q (ix2 b t) = Spec.scaleAt (qRow Q b (Spec.at32 t 24 (by decide))) := by
  unfold qScale query
  pointwise
  exact scale_read Q rfl (show (t : ℕ) * 32 + 24 = 32 * t + 24 by omega)
theorem qCount_at : qCount Q (ix2 b t) = Spec.count (qRow Q b) t := by
  unfold qCount query
  pointwise
  exact congrArg Q (congrArg (ix2 b) (Fin.ext (show (t : ℕ) * 32 + 25 = 32 * t + 25 by omega)))
theorem noMatch_at : noMatch cnt (ix3 b t k) = IntOp.cmpi .eq (cnt (ix2 b t)) 0#32 := by
  unfold noMatch
  pointwise
theorem valid_at : valid cnt (ix3 b t k) = IntOp.cmpi .slt (BitVec.ofNat 32 k) (cnt (ix2 b t)) := by
  unfold valid
  pointwise
theorem raw_at : raw qc kc (ix3 b t k) = ∑ d : Fin 96, qc (ix3 b t d) * kc (ix4 b k t d) := by
  unfold raw
  pointwise
theorem score_at : score cnt qs r ks (ix3 b t k) = Scalar.select (IntOp.cmpi .eq (cnt (ix2 b t)) 0#32) (0 : EReal)
    (Scalar.select (IntOp.cmpi .slt (BitVec.ofNat 32 k) (cnt (ix2 b t)))
      ((show EReal from r (ix3 b t k)) * ((show EReal from qs (ix2 b t)) * Ideal.ofBits .f32 0x3DD105EC#32) * (show EReal from ks (ix3 b t k)))
      (Ideal.ofBits .f32 0xFF800000#32)) := by
  unfold score
  pointwise [noMatch_at, valid_at]
theorem redHyp : S8192x4x256.Reduces [2] S8192x4 := by decide
theorem red_eq : Host.reduce FloatOps.maximumf s (constant S_ .f32 0xFF800000#32) reducesTo_S8192x4x256_S8192x4_d2 h_S_ = multiReduction .maximumf [2] S8192x4 s 0xFF800000#32 redHyp (by decide) (by decide) :=
  hostReduce_maximumf_eq_multiReduction s 0xFF800000#32 _ _ redHyp (by decide) (by decide)
theorem fold_at : multiReduction .maximumf [2] S8192x4 s 0xFF800000#32 redHyp (by decide) (by decide) (ix2 b t)
   = Finset.univ.fold max (Ideal.ofBits .f32 0xFF800000#32) (fun k : Fin 256 => (show EReal from s (ix3 b t k))) := by
  pointwise
/-- The maximum of `-inf` and the reduction. -/
def top' (M : FVec Ideal S8192x4 .f32) : FVec Ideal S8192x4 .f32 := maximumf (broadcastInDim S8192x4 ![] bcast_S_S8192x4 (constant S_ .f32 0xFF800000#32)) M
theorem top'_at (M : FVec Ideal S8192x4 .f32) : top' M (ix2 b t) = max (Ideal.ofBits .f32 0xFF800000#32) (M (ix2 b t)) := by
  unfold top'
  pointwise
theorem top_eq : top s = top' (Host.reduce FloatOps.maximumf s (constant S_ .f32 0xFF800000#32) reducesTo_S8192x4x256_S8192x4_d2 h_S_) := rfl
theorem top_at : top s (ix2 b t) = Finset.univ.fold max (Ideal.ofBits .f32 0xFF800000#32) (fun k : Fin 256 => (show EReal from s (ix3 b t k))) := by
  rw [top_eq, red_eq, top'_at, fold_at]
  exact max_eq_right ((Finset.le_fold_max _).2 (Or.inl le_rfl))
theorem expo_at : expo s tp (ix3 b t k) = Ideal.exp ((show EReal from s (ix3 b t k)) - (show EReal from tp (ix2 b t))) := by
  unfold expo
  pointwise
theorem total_at : total e (ix2 b t) = ∑ k : Fin 256, (show EReal from e (ix3 b t k)) := by
  unfold total
  pointwise
theorem weightsOf_at : weightsOf cnt e tot (ix3 b t k) = Scalar.select (IntOp.cmpi .eq (cnt (ix2 b t)) 0#32) (0 : EReal)
    (Ideal.div (show EReal from e (ix3 b t k)) (show EReal from tot (ix2 b t))) := by
  unfold weightsOf
  pointwise [noMatch_at]
theorem scaled_at : scaled cnt w ks (ix3 b t k) = Scalar.select (IntOp.cmpi .slt (BitVec.ofNat 32 k) (cnt (ix2 b t)))
    ((show EReal from w (ix3 b t k)) * (show EReal from ks (ix3 b t k))) (0 : EReal) := by
  unfold scaled
  pointwise [valid_at]
theorem pooledOf_at : pooledOf w kc (ix3 b t d) = ∑ k : Fin 256, (show EReal from w (ix3 b t k)) * (show EReal from kc (ix4 b k t d)) := by
  unfold pooledOf
  pointwise

end stages

section whole
variable (K : IVec S2097152x128 32) (Q : IVec S8192x128 32) (b : Fin 8192) (t : Fin 4) (k : Fin 256) (d : Fin 96)

theorem select_cases {c : BitVec 1} {z x y : EReal} (h : c = 0#1 → x = y) : Scalar.select c z x = Scalar.select c z y := by
  rcases BitVec.eq_zero_or_eq_one c with h' | h'
  · rw [h h']
  · rw [h']; rfl

theorem scores_at (h : Spec.none (qRow Q b) t = 0#1) : scores K Q (ix3 b t k) = Spec.score (qRow Q b) (kRow K b) t k := by
  unfold scores
  rw [score_at, raw_at, qScale_at, kScale_at, qCount_at, show IntOp.cmpi .eq (Spec.count (qRow Q b) t) 0#32 = 0#1 from h]
  simp only [qCodes_at, kCodes_at]
  rfl
theorem expos_at (h : Spec.none (qRow Q b) t = 0#1) : expos K Q (ix3 b t k) = Spec.expo (qRow Q b) (kRow K b) t k := by
  unfold expos
  rw [expo_at, top_at]
  simp only [scores_at K Q b t _ h]
  rfl
theorem weights_at : weights K Q (ix3 b t k) = Spec.weight (qRow Q b) (kRow K b) t k := by
  unfold weights
  rw [weightsOf_at, qCount_at]
  refine select_cases fun h => ?_
  rw [total_at]
  simp only [expos_at K Q b t _ h]
  rfl
theorem pooled_at : pooled K Q (ix3 b t d) = Spec.pooled (qRow Q b) (kRow K b) t d := by
  unfold pooled
  rw [pooledOf_at]
  refine Finset.sum_congr rfl fun k _ => ?_
  rw [scaled_at, qCount_at, weights_at, kScale_at, kCodes_at]
  rfl
end whole
end Cert.ReferenceIdeal.Term
-- ==== Proof.RefStack.lean ====
module

public import proofs.«01_k».proof.Proof.RefIdx
public import Idealize.ShloMosaic.Lib.Pipeline.Value

@[expose] public section

set_option maxRecDepth 16384

noncomputable section

namespace Cert.ReferenceIdeal.Term

open Cert.ReferenceIdeal Cert.ReferenceIdeal.Gen
open Idealize.ShloMosaic Idealize.ShloMosaic.TcCoe

/-! The stacked arguments at an index: user `b`'s rows lie in array `b / 1024`. -/

section
variable (xs : Fin 8 → IVec S262144x128 32) (qs : Fin 8 → IVec S1024x128 32) (b : Fin 8192)

theorem kRow_stack (k : Fin 256) (l : Fin 128) :
    kRow (stackK (xs 0) (xs 1) (xs 2) (xs 3) (xs 4) (xs 5) (xs 6) (xs 7)) b k l = xs ⟨b / 1024, by omega⟩ (ix2 ⟨b % 1024 * 256 + k, by omega⟩ l) := by
  have hk := k.2
  refine concatenate_ofFn_apply (t := S2097152x128) (s₁ := S262144x128) 0 xs concatenates_S262144x128_S262144x128_S262144x128_S262144x128_S262144x128_S262144x128_S262144x128_S262144x128_S2097152x128_d0
    rfl 262144 rfl (ix2 ⟨b * 256 + k, by omega⟩ l) _ ?_ _ ?_ ?_
  · show ((b : ℕ) * 256 + k) / 262144 = b / 1024; omega
  · show (b : ℕ) % 1024 * 256 + k = ((b : ℕ) * 256 + k) % 262144; omega
  · intro a ha
    match a with
    | 0 => exact absurd rfl ha
    | 1 => rfl
theorem qRow_stack (l : Fin 128) :
    qRow (stackQ (qs 0) (qs 1) (qs 2) (qs 3) (qs 4) (qs 5) (qs 6) (qs 7)) b l = qs ⟨b / 1024, by omega⟩ (ix2 ⟨b % 1024, Nat.mod_lt _ (by decide)⟩ l) := by
  refine concatenate_ofFn_apply (t := S8192x128) (s₁ := S1024x128) 0 qs concatenates_S1024x128_S1024x128_S1024x128_S1024x128_S1024x128_S1024x128_S1024x128_S1024x128_S8192x128_d0
    rfl 1024 rfl (ix2 b l) _ ?_ _ ?_ ?_
  · show (b : ℕ) / 1024 = b / 1024; rfl
  · show (b : ℕ) % 1024 = (b : ℕ) % 1024; rfl
  · intro a ha
    match a with
    | 0 => exact absurd rfl ha
    | 1 => rfl

end
end Cert.ReferenceIdeal.Term
-- ==== Proof.PackSpec.lean ====
module

public import Idealize.ShloMosaic.Lib.Pointwise
public import Idealize.ShloMosaic.Lib.BitcastFour

@[expose] public section

noncomputable section
namespace Cert.PackSpec
open Idealize.ShloMosaic

/-! The packed table: 507904 rows of 32 words, one row an item, in lines of four rows; row `i` of a stretch of 16384
items lies at line `i mod 4096` of the stretch's 4096 lines, in the line's quarter `i / 4096`. -/

variable {F : FTy → Type} [BitOps F]
variable (codes : IVec ⟨2, ![500000, 96]⟩ 8) (scales : FVec F ⟨1, ![500000]⟩ .f32)

/-- Four codes of an item as a word, the first lowest. -/
def word (n : Fin 500000) (j : ℕ) (hj : j < 24) : BitVec 32 :=
  let b : Fin 4 → BitVec 8 := fun k => codes (ix2 n ⟨4 * j + k, by omega⟩)
  (b 0).setWidth 32 ||| ((b 1).setWidth 32 <<< 8) ||| ((b 2).setWidth 32 <<< 16) ||| ((b 3).setWidth 32 <<< 24)
theorem word_bit (n : Fin 500000) (j : ℕ) (hj : j < 24) (q : ℕ) (hq : q < 32) :
    (word codes n j hj).getLsbD q = (codes (ix2 n ⟨4 * j + q / 8, by omega⟩)).getLsbD (q % 8) :=
  four_bytes_getLsbD (fun k => codes (ix2 n ⟨4 * j + k, by omega⟩)) q hq
/-- An item's scale word. -/
def scaleWord (n : Fin 500000) : BitVec 32 := IntOp.xori (BitOps.toBits (scales (ix1 n))) 2155905152#32

/-- Word `j` of row `i`: the codes, the scale, and 0 in the words and rows that are left. -/
def entry (i j : ℕ) : BitVec 32 :=
  if h : i < 500000 then (if hj : j < 24 then word codes ⟨i, h⟩ j hj else if j = 24 then scaleWord scales ⟨i, h⟩ else 0#32) else 0#32

/-- The row that quarter `g` of line `n` holds. -/
def rowAt (n g : ℕ) : ℕ := 16384 * (n / 4096) + 4096 * g + n % 4096

/-- The packed table. -/
def table : (⟨2, ![126976, 128]⟩ : Shape).Idx → BitVec 32 := fun y => entry codes scales (rowAt (y 0) ((y 1 : ℕ) / 32)) ((y 1 : ℕ) % 32)

end Cert.PackSpec
-- ==== Proof.PackPay.lean ====
module

public import proofs.«01_k».proof.Proof.PackSpec
public import proofs.«01_k».proof.Proof.Gen.Pack.Skeleton
public import Idealize.ShloMosaic.Lib.KernelVsHost

@[expose] public section

set_option maxRecDepth 16384

noncomputable section

namespace Cert.PackSpec

open Cert.Pack Cert.Pack.Gen
open Idealize.ShloMosaic Idealize.ShloMosaic.TcCoe

/-! What the body stores, at an index. -/

variable {F : FTy → Type} [BitOps F]

/-- Which of the block's 16384 items are below 500000. -/
def live (i : grid0.Coords) : IVec S1x16384 1 :=
  cmpi .slt (addi (broadcast S1x16384 (Scalar.muli (BitVec.ofNat 32 (i 0).val) 16384#32)) (iota .tc S1x16384 32 [1] iota_S1x16384_d1_w32))
    (broadcast S1x16384 500000#32)
/-- The code words of the block, 0 past the last item. -/
def codeWords (i : grid0.Coords) (X : Vec F S96x16384 .i8) : IVec S24x16384 32 :=
  select (broadcastTo S24x16384 (shapeCast S1x16384 (live i) shapeCasts_S1x16384_S1x16384) broadcasts_S1x16384_S24x16384)
    (bitcast S24x16384 32 (shapeCast S96x16384 X shapeCasts_S96x16384_S96x16384) bitcasts_S96x16384_w8_S24x16384_w32) (broadcast S24x16384 0#32)
/-- The scale words of the block, 0 past the last item. -/
def scaleWords (i : grid0.Coords) (Y : Vec F S1x16384 .f32) : IVec S1x16384 32 :=
  select (live i) (xori (bitcastToInt (shapeCast S1x16384 Y shapeCasts_S1x16384_S1x16384 : FVec F S1x16384 .f32)) (broadcast S1x16384 2155905152#32))
    (broadcast S1x16384 0#32)
/-- The four quarters stacked and turned. -/
def lines (c : IVec S24x16384 32) (s : IVec S1x16384 32) : IVec S4096x128 32 :=
  let z : IVec S7x4096 32 := broadcast S7x4096 0#32
  transpose S4096x128 [1, 0]
    (concatenate S128x4096 0
      [⟨S24x4096, extractStridedSlice S24x4096 ![0, 0] c slices_S24x16384_o0_0_S24x4096⟩,
       ⟨S1x4096, extractStridedSlice S1x4096 ![0, 0] s slices_S1x16384_o0_0_S1x4096⟩, ⟨S7x4096, z⟩,
       ⟨S24x4096, extractStridedSlice S24x4096 ![0, 4096] c slices_S24x16384_o0_4096_S24x4096⟩,
       ⟨S1x4096, extractStridedSlice S1x4096 ![0, 4096] s slices_S1x16384_o0_4096_S1x4096⟩, ⟨S7x4096, z⟩,
       ⟨S24x4096, extractStridedSlice S24x4096 ![0, 8192] c slices_S24x16384_o0_8192_S24x4096⟩,
       ⟨S1x4096, extractStridedSlice S1x4096 ![0, 8192] s slices_S1x16384_o0_8192_S1x4096⟩, ⟨S7x4096, z⟩,
       ⟨S24x4096, extractStridedSlice S24x4096 ![0, 12288] c slices_S24x16384_o0_12288_S24x4096⟩,
       ⟨S1x4096, extractStridedSlice S1x4096 ![0, 12288] s slices_S1x16384_o0_12288_S1x4096⟩, ⟨S7x4096, z⟩]
      concatenates_S24x4096_S1x4096_S7x4096_S24x4096_S1x4096_S7x4096_S24x4096_S1x4096_S7x4096_S24x4096_S1x4096_S7x4096_S128x4096_d0)
    transposes_S128x4096_p1_0_S4096x128

theorem pay_eq (i : grid0.Coords) (X : Vec F S96x16384 .i8) (Y : Vec F S1x16384 .f32) :
    k0_pay1 i X Y = lines (codeWords i X) (scaleWords i Y) := rfl

theorem live_at (i : grid0.Coords) (z : Fin 1) (L : Fin 16384) :
    live i (ix2 z L) = if (i 0 : ℕ) * 16384 + L < 500000 then 1#1 else 0#1 := by
  have hi : (i 0 : ℕ) < 31 := (i 0).2
  have hL := L.2
  unfold live
  pointwise
  have e : (Scalar.muli (BitVec.ofNat 32 (i 0).val) 16384#32 + BitVec.ofNat 32 L : BitVec 32).toInt = (i 0 : ℕ) * 16384 + L := by
    show ((BitVec.ofNat 32 (i 0).val * 16384#32 + BitVec.ofNat 32 L : BitVec 32)).toInt = _
    rw [BitVec.toInt_eq_toNat_of_lt]
    · simp only [BitVec.toNat_add, BitVec.toNat_mul, BitVec.toNat_ofNat]; omega
    · simp only [BitVec.toNat_add, BitVec.toNat_mul, BitVec.toNat_ofNat]; omega
  show BitVec.ofBool ((Scalar.muli (BitVec.ofNat 32 (i 0).val) 16384#32 + BitVec.ofNat 32 L : BitVec 32).slt 500000#32) = _
  unfold BitVec.slt
  rw [e, show (500000#32 : BitVec 32).toInt = 500000 by decide]
  by_cases h : (i 0 : ℕ) * 16384 + (L : ℕ) < 500000
  · rw [if_pos h, decide_eq_true (by exact_mod_cast h)]; rfl
  · rw [if_neg h, decide_eq_false (by exact_mod_cast h)]; rfl

variable (C : IVec ⟨2, ![500000, 96]⟩ 8) (s : FVec F ⟨1, ![500000]⟩ .f32)

theorem codeWords_at (i : grid0.Coords) (X : Vec F S96x16384 .i8)
    (hX : ∀ (p : Fin 96) (L : Fin 16384) (h : (i 0 : ℕ) * 16384 + L < 500000), X (ix2 p L) = C (ix2 ⟨_, h⟩ p)) (j : Fin 24) (L : Fin 16384) :
    codeWords i X (ix2 j L) = entry C s ((i 0 : ℕ) * 16384 + L) j := by
  unfold codeWords
  pointwise
  rw [live_at]
  unfold entry
  by_cases h : (i 0 : ℕ) * 16384 + (L : ℕ) < 500000
  · rw [if_pos h, dif_pos h, dif_pos j.2]
    show bitcast S24x16384 32 X bitcasts_S96x16384_w8_S24x16384_w32 (ix2 j L) = _
    refine BitVec.eq_of_getLsbD_eq fun q hq => ?_
    rw [word_bit C _ _ j.2 q hq]
    have hj := j.2
    refine (bitcast_8_32_getLsbD_ix2 X bitcasts_S96x16384_w8_S24x16384_w32 j L q hq ⟨4 * (j : ℕ) + q / 8, by omega⟩ rfl).trans ?_
    exact congrArg (fun v : BitVec 8 => v.getLsbD (q % 8)) (hX ⟨4 * (j : ℕ) + q / 8, by omega⟩ L h)
  · rw [if_neg h, dif_neg h]; rfl

theorem scaleWords_at (i : grid0.Coords) (Y : Vec F S1x16384 .f32)
    (hY : ∀ (L : Fin 16384) (h : (i 0 : ℕ) * 16384 + L < 500000), Y (ix2 (0 : Fin 1) L) = s (ix1 ⟨_, h⟩)) (z : Fin 1) (L : Fin 16384) :
    scaleWords i Y (ix2 z L) = entry C s ((i 0 : ℕ) * 16384 + L) 24 := by
  unfold scaleWords
  pointwise
  rw [live_at]
  unfold entry
  obtain rfl : z = 0 := Subsingleton.elim _ _
  by_cases h : (i 0 : ℕ) * 16384 + (L : ℕ) < 500000
  · rw [if_pos h, dif_pos h, dif_neg (by decide), if_pos rfl, hY _ h]; rfl
  · rw [if_neg h, dif_neg h]; rfl

/-- A choice both sides of which are `z`. -/
theorem either {α : Type} {p : Prop} [Decidable p] {x : p → α} {y : ¬p → α} {z : α} (h1 : ∀ h, x h = z) (h2 : ∀ h, y h = z) : dite p x y = z := by
  split
  · exact h1 _
  · exact h2 _

theorem lines_at (c : IVec S24x16384 32) (sw : IVec S1x16384 32) (G : ℕ → ℕ → BitVec 32) (hc : ∀ (j : Fin 24) (L : Fin 16384), c (ix2 j L) = G L j)
    (hs : ∀ (z : Fin 1) (L : Fin 16384), sw (ix2 z L) = G L 24) (hG : ∀ L j, 25 ≤ j → G L j = 0#32) (a : Fin 4096) (l : Fin 128) :
    lines c sw (ix2 a l) = G (4096 * ((l : ℕ) / 32) + a) ((l : ℕ) % 32) := by
  have hl := l.2
  have ha := a.2
  unfold lines
  pointwise
  have hG' : ∀ {L L' j j' : ℕ}, L = L' → j = j' → G L j = G L' j' := by rintro _ _ _ _ rfl rfl; rfl
  repeat' refine either (fun h => ?_) (fun h => ?_)
  all_goals first
    | exact (hc _ _).trans (hG' (by dsimp only; omega) (by dsimp only; omega))
    | exact (hs _ _).trans (hG' (by dsimp only; omega) (by omega))
    | exact (hG _ _ (by omega)).symm

/-- The body stores the table's lines: what the buffers hold past the last item is not read. -/
theorem pay_at (i : grid0.Coords) (X : Vec F S96x16384 .i8) (Y : Vec F S1x16384 .f32)
    (hX : ∀ (p : Fin 96) (L : Fin 16384) (h : (i 0 : ℕ) * 16384 + L < 500000), X (ix2 p L) = C (ix2 ⟨_, h⟩ p))
    (hY : ∀ (L : Fin 16384) (h : (i 0 : ℕ) * 16384 + L < 500000), Y (ix2 (0 : Fin 1) L) = s (ix1 ⟨_, h⟩)) (a : Fin 4096) (l : Fin 128) :
    k0_pay1 i X Y (ix2 a l) = entry C s ((i 0 : ℕ) * 16384 + (4096 * ((l : ℕ) / 32) + a)) ((l : ℕ) % 32) := by
  rw [pay_eq]
  refine lines_at _ _ (fun L j => entry C s ((i 0 : ℕ) * 16384 + L) j) (codeWords_at C s i X hX) (scaleWords_at C s i Y hY) (fun L j hj => ?_) a l
  unfold entry
  split_ifs <;> first | rfl | omega

end Cert.PackSpec
-- ==== Proof.PackRun.lean ====
module

public import proofs.«01_k».proof.Proof.PackPay
public import proofs.«01_k».proof.Proof.Gen.Pack.Launch
public import proofs.«01_k».proof.Proof.Gen.Pack.Frame
public import Idealize.ShloMosaic.Lib.Pipeline.ValueKit
public import Idealize.ShloMosaic.Lib.Pipeline.KitQuiescent
public import Idealize.ShloMosaic.Lib.Tactic

@[expose] public section

set_option maxRecDepth 16384

noncomputable section

namespace Cert.PackSpec

open Cert.Pack Cert.Pack.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation BodyObligationLoose cellOf)

/-! The run of the packing: each block's lines are the table's, whatever the buffers hold past the last item. -/

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The items' codes. -/
def argC (c : Dev nD) : IVec ⟨2, ![500000, 96]⟩ 8 := m ((c.tc : Thread nD τ).loc main_arg0)
/-- The items' scales. -/
def argS (c : Dev nD) : FVec F ⟨1, ![500000]⟩ .f32 := m ((c.tc : Thread nD τ).loc main_arg1)
/-- The table. -/
def tableAt (c : Dev nD) : S126976x128.Idx → BitVec 32 := table (argC m c) (argS m c)
/-- A grid point's part of it. -/
def tableBlk (c : Dev nD) (t : Fin cfg0.N) : S4096x128.Idx → BitVec 32 := fun y =>
  entry (argC m c) (argS m c) ((grid0.coords t 0 : ℕ) * 16384 + (4096 * ((y 1 : ℕ) / 32) + y 0)) ((y 1 : ℕ) % 32)

/-- The proof data: the arrays as the region finds them; after the body the inputs' buffers hold their blocks, filled
out with nothing in particular past the array, and the result's the table's lines. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.choice inferInstance) (iblk m c 0 t)
    | ⟨1, _⟩ => win0_1.fill (grid0.coords t) (fun _ => Classical.choice inferInstance) (iblk m c 1 t)
    | ⟨2, _⟩ => tableBlk m c t
  Φ _ := Pipeline.ΦA spec0 c
  q _ := fullShare
  owed _ := 0

/-- No variants. -/
abbrev 𝒱₀ : Variants := Variants.none

theorem before_0 (c : Dev nD) (t : Fin cfg0.N) (d) :
    (dats m 0 c).before (0 : Fin 3) t d = win0_0.fill (grid0.coords t) d (iblk m c 0 t) := by
  unfold Dat.before; rw [if_pos (fetch0_0 t)]; rfl
theorem before_1 (c : Dev nD) (t : Fin cfg0.N) (d) :
    (dats m 0 c).before (1 : Fin 3) t d = win0_1.fill (grid0.coords t) d (iblk m c 1 t) := by
  unfold Dat.before; rw [if_pos (fetch0_1 t)]; rfl

/-! ### What the buffers hold below the last item -/

theorem v0_at (c : Dev nD) (p : Fin 96) (n : Fin 500000) : V m c main_v0 (ix2 p n) = argC m c (ix2 n p) := by
  have e : V m c main_v0 = transpose S96x500000 [1, 0] (argC m c) transposes_S500000x96_S96x500000_1_0 := by
    unfold V argC; after_results <;> rfl
  rw [e]
  pointwise
theorem v1_at (c : Dev nD) (n : Fin 500000) : V m c main_v1 (ix2 (0 : Fin 1) n) = argS m c (ix1 n) := by
  have e : V m c main_v1 = shapeCast S1x500000 (argS m c) shapeCasts_S500000_S1x500000 := by
    unfold V argS; after_results <;> rfl
  rw [e]
  pointwise

theorem size0 : ∀ t : Fin grid0.N, win0_0.xsize (grid0.coords t) 0 = 96 ∧ win0_0.xsize (grid0.coords t) 1 = min 16384 (500000 - 16384 * (grid0.coords t 0 : ℕ)) := by
  decide +kernel
theorem size1 : ∀ t : Fin grid0.N, win0_1.xsize (grid0.coords t) 0 = 1 ∧ win0_1.xsize (grid0.coords t) 1 = min 16384 (500000 - 16384 * (grid0.coords t 0 : ℕ)) := by
  decide +kernel
theorem index0 : ∀ t : Fin grid0.N, win0_0.index t = ![0, (grid0.coords t 0 : ℕ)] := by decide +kernel
theorem index1 : ∀ t : Fin grid0.N, win0_1.index t = ![0, (grid0.coords t 0 : ℕ)] := by decide +kernel
theorem index2 : ∀ t : Fin grid0.N, win0_2.index t = ![(grid0.coords t 0 : ℕ), 0] := by decide +kernel

theorem fill0_at (c : Dev nD) (t : Fin cfg0.N) (d) (p : Fin 96) (L : Fin 16384) (h : (grid0.coords t 0 : ℕ) * 16384 + L < 500000) :
    win0_0.fill (grid0.coords t) d (iblk m c 0 t) (ix2 p L) = argC m c (ix2 ⟨_, h⟩ p) := by
  obtain ⟨s0, s1⟩ := size0 t
  have hL := L.2
  have hp := p.2
  have hm : win0_0.moved (grid0.coords t) (ix2 p L) = true := (win0_0.moved_iff _ _).2 fun a => by
    match a with
    | 0 => exact lt_of_lt_of_eq hp s0.symm
    | 1 => exact lt_of_lt_of_eq (show (L : ℕ) < min 16384 (500000 - 16384 * (grid0.coords t 0 : ℕ)) by omega) s1.symm
  unfold Window.fill
  rw [dif_pos hm]
  refine Eq.trans ?_ (v0_at m c p ⟨_, h⟩)
  show V m c main_v0 ((win0_0.blk t).view.emb _) = _
  refine congrArg _ (funext fun a => Fin.ext ?_)
  match a with
  | 0 =>
    show win0_0.index t 0 * 96 + 1 * (p : ℕ) = p
    rw [index0]; show 0 * 96 + 1 * (p : ℕ) = p; omega
  | 1 =>
    show win0_0.index t 1 * 16384 + 1 * (L : ℕ) = (grid0.coords t 0 : ℕ) * 16384 + L
    rw [index0]; show (grid0.coords t 0 : ℕ) * 16384 + 1 * (L : ℕ) = (grid0.coords t 0 : ℕ) * 16384 + L; omega
theorem fill1_at (c : Dev nD) (t : Fin cfg0.N) (d) (L : Fin 16384) (h : (grid0.coords t 0 : ℕ) * 16384 + L < 500000) :
    win0_1.fill (grid0.coords t) d (iblk m c 1 t) (ix2 (0 : Fin 1) L) = argS m c (ix1 ⟨_, h⟩) := by
  obtain ⟨s0, s1⟩ := size1 t
  have hL := L.2
  have hm : win0_1.moved (grid0.coords t) (ix2 (0 : Fin 1) L) = true := (win0_1.moved_iff _ _).2 fun a => by
    match a with
    | 0 => exact lt_of_lt_of_eq Nat.zero_lt_one s0.symm
    | 1 => exact lt_of_lt_of_eq (show (L : ℕ) < min 16384 (500000 - 16384 * (grid0.coords t 0 : ℕ)) by omega) s1.symm
  unfold Window.fill
  rw [dif_pos hm]
  refine Eq.trans ?_ (v1_at m c ⟨_, h⟩)
  show V m c main_v1 ((win0_1.blk t).view.emb _) = _
  refine congrArg _ (funext fun a => Fin.ext ?_)
  match a with
  | 0 =>
    show win0_1.index t 0 * 1 + 1 * 0 = 0
    rw [index1]; rfl
  | 1 =>
    show win0_1.index t 1 * 16384 + 1 * (L : ℕ) = (grid0.coords t 0 : ℕ) * 16384 + L
    rw [index1]; show (grid0.coords t 0 : ℕ) * 16384 + 1 * (L : ℕ) = (grid0.coords t 0 : ℕ) * 16384 + L; omega

/-- So the body stores the point's part of the table. -/
theorem stored (c : Dev nD) (t : Fin cfg0.N) (d0) (d1) :
    k0_pay1 (grid0.coords t) (win0_0.fill (grid0.coords t) d0 (iblk m c 0 t)) (win0_1.fill (grid0.coords t) d1 (iblk m c 1 t)) = tableBlk m c t := by
  funext y
  idx_vars y
  exact pay_at (argC m c) (argS m c) (grid0.coords t) _ _ (fill0_at m c t d0) (fill1_at m c t d1) y0 y1

/-! ### The body -/

theorem zeros2 : (![0, 0] : Fin 2 → ℕ) = fun _ => 0 := by funext a; fin_cases a <;> rfl

/-- The body on whole buffers: two whole loads, a load nothing reads, a whole store. -/
theorem sound_body (c : Dev nD) (E : Set ℕ) (i : grid0.Coords)
    (a0 : Memref sig .tc .vmem S96x16384 .i8) (h0 : a0.IsWhole) (a1 : Memref sig .tc .vmem S1x16384 .f32) (h1 : a1.IsWhole)
    (a2 : Memref sig .tc .vmem S4096x128 .i32) (h2 : a2.IsWhole)
    (X0 : Vec F S96x16384 .i8) (X1 : Vec F S1x16384 .f32) (X2 : Vec F S4096x128 .i32) (K : PUnit → sProp 𝕄) :
    iprop((owns (c : Thread nD τ) a0 fullShare X0 ∗ owns (c : Thread nD τ) a1 fullShare X1 ∗ owns (c : Thread nD τ) a2 fullShare X2)
          ∗ (iprop(owns (c : Thread nD τ) a0 fullShare X0 ∗ owns (c : Thread nD τ) a1 fullShare X1
                  ∗ owns (c : Thread nD τ) a2 fullShare (k0_pay1 i X0 X1)) -∗ K ⟨⟩))
      ⊢ wp frame (wpE (defs₀ (F := F)) 𝒱₀ c none) E (cc0_pack_table i a0 h0 a1 h1 a2 h2) K := by
  rw [cc0_pack_table_eq_skeleton]
  unfold cc0_pack_table_skel owns
  iintro ⟨⟨⟨%f0, %hf0, H0⟩, ⟨%f1, %hf1, H1⟩, ⟨%f2, -, H2⟩⟩, Hk⟩
  obtain rfl := h0.eq_unread hf0
  obtain rfl := h1.eq_unread hf1
  sl_exec
  sl_step
  iapply Hk
  isplitl [H0]
  · iexists _; isplitr; · ipureintro; exact h0.read_unread _
    iexact H0
  isplitl [H1]
  · iexists _; isplitr; · ipureintro; exact h1.read_unread _
    iexact H1
  iexists _; isplitr
  swap; · iexact H2
  ipureintro
  rw [View.read_writes_eq_canon _ _ _ fun y => ⟨_, List.mem_singleton_self _, View.mem_set_unit_zero zeros2 inb_S4096x128_S4096x128_0_0 y⟩, View.canon_unit_zero zeros2]
  have e0 : View.readAt (Elt F) a0.view (Rect.unit ![0, 0] S96x16384.size inb_S96x16384_S96x16384_0_0).toLoadRect (h0.unread X0) = X0 := by
    rw [View.readAt_eq_ld, h0.read_unread]
    exact View.ld_unit_zero zeros2 _ _
  have e1 : View.readAt (Elt F) a1.view (Rect.unit ![0, 0] S1x16384.size inb_S1x16384_S1x16384_0_0).toLoadRect (h1.unread X1) = X1 := by
    rw [View.readAt_eq_ld, h1.read_unread]
    exact View.ld_unit_zero zeros2 _ _
  rw [e0, e1]

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: on the part inside the array the inputs' buffers are as they were. -/
theorem body_obligation (c : Dev nD) : BodyObligationLoose (dats m 0 c) (defs₀ (F := F)) 𝒱₀ () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  unfold bodyAt0
  iapply (sound_body (F := F) c Set.univ (grid0.coords t) _ _ _ _ _ _
    (win0_0.fill (grid0.coords t) d0 (iblk m c 0 t)) (win0_1.fill (grid0.coords t) d1 (iblk m c 1 t)) ((dats m 0 c).before (2 : Fin 3) t d2) _)
  isplitl [H0 H1 H2]
  · isplitl [H0]
    · iexact H0
    isplitl [H1]
    · iexact H1
    · iexact H2
  rw [stored m c t d0 d1]
  iintro ⟨H0, H1, H2⟩
  isplitl [HΦ]; · iexact HΦ
  isplitl [Ho]; · iexact Ho
  isplitl [H0]
  · iexists d0
    change _ ⊢ owns (c : Thread nD τ) (win0_0.stage (cfg0.slots t 0)) fullShare (win0_0.fill (grid0.coords t) d0
      (win0_0.cut (grid0.coords t) (win0_0.fill (grid0.coords t) (fun _ => Classical.choice inferInstance) (iblk m c 0 t))))
    rw [win0_0.cut_fill]
  isplitl [H1]
  · iexists d1
    change _ ⊢ owns (c : Thread nD τ) (win0_1.stage (cfg0.slots t 1)) fullShare (win0_1.fill (grid0.coords t) d1
      (win0_1.cut (grid0.coords t) (win0_1.fill (grid0.coords t) (fun _ => Classical.choice inferInstance) (iblk m c 1 t))))
    rw [win0_1.cut_fill]
  · iexact H2

/-! ### The run -/

set_option backward.isDefEq.respectTransparency.types false in
/-- The packing's run: the arrays at what the library computes, every semaphore at zero. -/
theorem run_main : θ_run defs (onTc (τ := τ) (main (F := F))) (s₀ m ρ) (fun r => Pipeline.FramePost cfgs (dats m) 0 (V m) r ∧ r.2.sem = fun _ => 0) :=
  Pipeline.θ_run_frame cfgs (dats m) 0 launch0 defs₀ 𝒱₀ m ρ main
    (hbody := body_obligation m)
    (hshare := fun c => (dats m 0 c).share_full fun _ => rfl) (howed := fun _ _ => rfl)
    (V := V m) (hmain := hmain m 𝒱₀) (hA := fun _ _ => rfl) (hΦ := fun _ _ => rfl)
    (Q' := fun r => Pipeline.FramePost cfgs (dats m) 0 (V m) r ∧ r.2.sem = fun _ => 0) (hQ' := fun _ h => h)

/-- The result array ends holding the table. -/
theorem final (c : Dev nD) : (dats m 0 c).arrAt (2 : Fin 3) cfg0.N = tableAt m c := by
  refine (dats m 0 c).arrAt_eq_of_covers (2 : Fin 3) _ (by decide +kernel) fun t hf y => ?_
  have hi : (grid0.coords t 0 : ℕ) < 31 := (grid0.coords t 0).2
  have e0 : ((((cfg0.win 2).blk t).view.emb y) 0 : ℕ) = (grid0.coords t 0 : ℕ) * 4096 + (y 0 : ℕ) := by
    show win0_2.index t 0 * 4096 + 1 * (y 0 : ℕ) = _
    rw [index2]; show (grid0.coords t 0 : ℕ) * 4096 + 1 * (y 0 : ℕ) = _; omega
  have e1 : ((((cfg0.win 2).blk t).view.emb y) 1 : ℕ) = (y 1 : ℕ) := by
    show win0_2.index t 1 * 128 + 1 * (y 1 : ℕ) = _
    rw [index2]; show 0 * 128 + 1 * (y 1 : ℕ) = _; omega
  have h0 : (y 0 : ℕ) < 4096 := (y 0).2
  show entry (argC m c) (argS m c) ((grid0.coords t 0 : ℕ) * 16384 + (4096 * ((y 1 : ℕ) / 32) + y 0)) ((y 1 : ℕ) % 32)
    = entry (argC m c) (argS m c) (rowAt ((((cfg0.win 2).blk t).view.emb y) 0) (((((cfg0.win 2).blk t).view.emb y) 1 : ℕ) / 32))
        (((((cfg0.win 2).blk t).view.emb y) 1 : ℕ) % 32)
  rw [e0, e1]
  refine congrArg (fun n => entry (argC m c) (argS m c) n _) ?_
  unfold rowAt
  omega

/-- The packing ends with the table in its result, its arguments unchanged and every semaphore at zero. -/
theorem pack_run : θ_run defs (onTc (τ := τ) (main (F := F))) ⟨m, fun _ => 0, ρ⟩ fun r =>
    (∀ c : Dev nD, r.2.mem ((c.tc : Thread nD τ).loc main_v2) = tableAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨((h.1 c).1 2).trans (final m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩, h.2⟩) (run_main m ρ)

end Cert.PackSpec
-- ==== Proof.PackRef.lean ====
module

public import proofs.«01_k».proof.Proof.PackSpec
public import proofs.«01_k».proof.Proof.Gen.Table.Run
public import Idealize.ShloMosaic.Lib.BitcastConvert
public import Idealize.ShloMosaic.Lib.KernelVsHost

@[expose] public section

set_option maxRecDepth 16384

noncomputable section

namespace Cert.PackSpec

open Cert.Table Cert.Table.Gen
open Idealize.ShloMosaic Idealize.ShloMosaic.TcCoe

/-! The reference's table at an index. -/

variable {F : FTy → Type} [BitOps F]
variable (C : IVec ⟨2, ![500000, 96]⟩ 8) (s : FVec F ⟨1, ![500000]⟩ .f32)

/-- The reference's code words. -/
def refCodes : IVec S500000x24 32 :=
  Host.bitcastConvertWiden S500000x24 32 (shapeCast _ C shapeCasts_S500000x96_S500000x24x4) splits_S500000x24_w32_S500000x24x4_w8
/-- The reference's scale words. -/
def refScale : IVec S500000x1 32 :=
  broadcastInDim S500000x1 ![0] bcast_S500000_S500000x1_0 (xori (bitcastToInt s) (broadcastInDim S500000 ![] bcast_S_S500000 (constantI S_ 32 2155905152#32)))
/-- The reference's rows, the empty ones with them. -/
def refRows (c : IVec S500000x24 32) (w : IVec S500000x1 32) : IVec S507904x32 32 :=
  concatenate S507904x32 0 [⟨S500000x32, concatenate S500000x32 1 [⟨S500000x24, c⟩, ⟨S500000x1, w⟩, ⟨S500000x7, broadcastInDim S500000x7 ![] bcast_S_S500000x7 (constantI S_ 32 0#32)⟩]
    concatenates_S500000x24_S500000x1_S500000x7_S500000x32_d1⟩, ⟨S7904x32, broadcastInDim S7904x32 ![] bcast_S_S7904x32 (constantI S_ 32 0#32)⟩]
    concatenates_S500000x32_S7904x32_S507904x32_d0
/-- The reference's rows in lines. -/
def refLines (r : IVec S507904x32 32) : IVec S126976x128 32 :=
  shapeCast _ (transpose S31x4096x4x32 [0, 2, 1, 3] (shapeCast _ r shapeCasts_S507904x32_S31x4x4096x32) transposes_S31x4x4096x32_S31x4096x4x32_0_2_1_3)
    shapeCasts_S31x4096x4x32_S126976x128

theorem refCodes_at (n : Fin 500000) (j : Fin 24) : refCodes C (ix2 n j) = word C n j j.2 := by
  refine BitVec.eq_of_getLsbD_eq fun q hq => ?_
  rw [word_bit C n j j.2 q hq]
  unfold refCodes
  rw [Host.bitcastConvertWiden_getLsbD _ _ _ _ _ q hq]
  have e : splits_S500000x24_w32_S500000x24x4_w8.snoc (ix2 n j) ⟨q / 8, splits_S500000x24_w32_S500000x24x4_w8.div_lt hq⟩
      = ix3 n j (⟨q / 8, by omega⟩ : Fin 4) := by
    funext b
    match b with
    | 0 => rfl
    | 1 => rfl
    | 2 => rfl
  rw [e]
  pointwise
  exact congrArg (fun v : Fin 96 => (C (ix2 n v)).getLsbD (q % 8)) (Fin.ext (show (j : ℕ) * 4 + q / 8 = 4 * j + q / 8 by omega))
theorem refScale_at (n : Fin 500000) (z : Fin 1) : refScale s (ix2 n z) = scaleWord s n := by
  unfold refScale scaleWord
  pointwise
theorem refRows_at (i : Fin 507904) (j : Fin 32) : refRows (refCodes C) (refScale s) (ix2 i j) = entry C s i j := by
  unfold refRows entry
  pointwise
  by_cases h : (i : ℕ) < 500000
  · rw [dif_pos h, dif_pos h]
    by_cases hj : (j : ℕ) < 24
    · rw [dif_pos hj, dif_pos hj]
      exact refCodes_at C ⟨i, h⟩ ⟨j, hj⟩
    · rw [dif_neg hj, dif_neg hj]
      by_cases h24 : (j : ℕ) = 24
      · rw [dif_pos (show (j : ℕ) - 24 < 1 by omega), if_pos h24]
        exact refScale_at s _ _
      · rw [dif_neg (show ¬(j : ℕ) - 24 < 1 by omega), if_neg h24]
  · rw [dif_neg h, dif_neg h]
theorem refLines_at (r : IVec S507904x32 32) (n : Fin 126976) (l : Fin 128) :
    refLines r (ix2 n l) = r (ix2 ⟨rowAt n ((l : ℕ) / 32), by unfold rowAt; omega⟩ ⟨(l : ℕ) % 32, Nat.mod_lt _ (by decide)⟩) := by
  unfold refLines
  pointwise
  refine congrArg r (congrArg₂ ix2 (Fin.ext ?_) rfl)
  show (n : ℕ) / 4096 * 16384 + (l : ℕ) / 32 * 4096 + (n : ℕ) % 4096 = rowAt n ((l : ℕ) / 32)
  unfold rowAt; omega

theorem refTable : refLines (refRows (refCodes C) (refScale s)) = table C s := by
  funext y
  idx_vars y
  exact (refLines_at _ y0 y1).trans (refRows_at C s _ _)

end Cert.PackSpec
-- ==== Proof.lean ====
module

public import proofs.«01_k».proof.Defs
public import proofs.«01_k».proof.Proof.Gen.Kernel.Frame
public import proofs.«01_k».proof.Proof.RunValue
public import proofs.«01_k».proof.Proof.RefStack
public import proofs.«01_k».proof.Proof.PackRun
public import proofs.«01_k».proof.Proof.PackRef
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.Blk (argX argQ weightsAll pooledAll)
open Cert.ReferenceIdeal.Term (stackK stackQ)

section
variable (xs : Fin 8 → IVec Cert.KernelIdeal.S262144x128 32) (qs : Fin 8 → IVec Cert.KernelIdeal.S1024x128 32)

/-- The reference's weights of the stacked arguments are the kernel's. -/
theorem weights_eq : Cert.ReferenceIdeal.Term.weights (stackK (xs 0) (xs 1) (xs 2) (xs 3) (xs 4) (xs 5) (xs 6) (xs 7))
    (stackQ (qs 0) (qs 1) (qs 2) (qs 3) (qs 4) (qs 5) (qs 6) (qs 7)) = weightsAll xs qs := by
  funext i
  idx_vars i
  rw [Cert.ReferenceIdeal.Term.weights_at]
  exact congrArg₂ (fun q x => Cert.Spec.weight q x i1 i2) (funext fun l => Cert.ReferenceIdeal.Term.qRow_stack qs i0 l)
    (funext fun k => funext fun l => Cert.ReferenceIdeal.Term.kRow_stack xs i0 k l)
/-- The reference's pooled values of the stacked arguments are the kernel's. -/
theorem pooled_eq : Cert.ReferenceIdeal.Term.pooled (stackK (xs 0) (xs 1) (xs 2) (xs 3) (xs 4) (xs 5) (xs 6) (xs 7))
    (stackQ (qs 0) (qs 1) (qs 2) (qs 3) (qs 4) (qs 5) (qs 6) (qs 7)) = pooledAll xs qs := by
  funext i
  idx_vars i
  rw [Cert.ReferenceIdeal.Term.pooled_at]
  exact congrArg₂ (fun q x => Cert.Spec.pooled q x i1 i2) (funext fun l => Cert.ReferenceIdeal.Term.qRow_stack qs i0 l)
    (funext fun k => funext fun l => Cert.ReferenceIdeal.Term.kRow_stack xs i0 k l)
end

/-- From memories that agree on the sixteen arguments, kernel and reference end with the same two results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => pooledAll (argX m c) (argQ m c), fun c => weightsAll (argX m c) (argQ m c), Cert.KernelIdeal.Blk.run m g, ?_⟩
  refine (θ_run _ _ _).mono (fun r h c => ?_) (Cert.ReferenceIdeal.Value.run m' g')
  obtain ⟨h0, h1, hr⟩ := h c
  obtain ⟨a0, a1, a2, a3, a4, a5, a6, a7, a8, a9, a10, a11, a12, a13, a14, a15⟩ := hagree c
  refine ⟨h0.trans ?_, h1.trans ?_, hr⟩
  · refine (Cert.ReferenceIdeal.Term.res_pooled m' c).trans ?_
    unfold Cert.ReferenceIdeal.Term.argK Cert.ReferenceIdeal.Term.argQ
    rw [a0, a1, a2, a3, a4, a5, a6, a7, a8, a9, a10, a11, a12, a13, a14, a15]
    exact pooled_eq (argX m c) (argQ m c)
  · refine (Cert.ReferenceIdeal.Term.res_weights m' c).trans ?_
    unfold Cert.ReferenceIdeal.Term.argK Cert.ReferenceIdeal.Term.argQ
    rw [a0, a1, a2, a3, a4, a5, a6, a7, a8, a9, a10, a11, a12, a13, a14, a15]
    exact weights_eq (argX m c) (argQ m c)

/-- From memories that agree on the codes and the scales, the packing and its reference end with the same table. -/
theorem packed : Cert.bitexact_Pack_Table (hPack := Cert.Pack.Gen.facts) (hTable := Cert.Table.Gen.facts) := by
  intro m g m' g' _ hagree
  refine ⟨fun c => Cert.PackSpec.tableAt m c, (θ_run _ _ _).mono (fun r h => h.1) (Cert.PackSpec.pack_run m g), ?_⟩
  refine (θ_run _ _ _).mono (fun r h c => ?_) (Cert.Table.Value.run m' g')
  obtain ⟨h0, hr⟩ := h c
  obtain ⟨a0, a1⟩ := hagree c
  refine ⟨h0.trans ?_, hr⟩
  rw [a0, a1]
  exact Cert.PackSpec.refTable (Cert.PackSpec.argC m c) (Cert.PackSpec.argS m c)

theorem claim : Cert.Claim := ⟨Cert.Kernel.Gen.facts, Cert.KernelIdeal.Gen.facts, Cert.ReferenceIdeal.Gen.facts, Cert.Pack.Gen.facts, Cert.Table.Gen.facts,
  fun m ρ _ => Cert.Kernel.Gen.frame m ρ, fun m ρ _ => Cert.KernelIdeal.Gen.frame m ρ,
  fun m ρ _ => (θ_run _ _ _).mono (fun r h => ⟨fun c => (h c).2.2, sem_eq_zero_of_no_sems (by decide) r.2⟩)
    (Cert.ReferenceIdeal.Value.run m ρ),
  fun m ρ _ => (θ_run _ _ _).mono (fun r h => ⟨fun c => (h.1 c).2, h.2⟩) (Cert.PackSpec.pack_run m ρ),
  fun m ρ _ => (θ_run _ _ _).mono (fun r h => ⟨fun c => (h c).2, sem_eq_zero_of_no_sems (by decide) r.2⟩) (Cert.Table.Value.run m ρ),
  trivial, algebraic, packed⟩

end Cert.Proof

end
